-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x4096x4096 : Shape := ⟨3, ![4, 4096, 4096]⟩
abbrev S64x4096 : Shape := ⟨2, ![64, 4096]⟩
abbrev S16384x4096 : Shape := ⟨2, ![16384, 4096]⟩
abbrev S8x16384 : Shape := ⟨2, ![8, 16384]⟩
abbrev S64x16384 : Shape := ⟨2, ![64, 16384]⟩
abbrev S16384x8 : Shape := ⟨2, ![16384, 8]⟩
abbrev S4x4096x8 : Shape := ⟨3, ![4, 4096, 8]⟩
abbrev S16384x64 : Shape := ⟨2, ![16384, 64]⟩
abbrev S4x4096x64 : Shape := ⟨3, ![4, 4096, 64]⟩
abbrev S1024x1024 : Shape := ⟨2, ![1024, 1024]⟩
abbrev S64x1024 : Shape := ⟨2, ![64, 1024]⟩
abbrev S8x1024 : Shape := ⟨2, ![8, 1024]⟩
abbrev S1024 : Shape := ⟨1, ![1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S16384x4096, .f32⟩
  | .hbm, ⟨3, _⟩ => ⟨S8x16384, .i32⟩
  | .hbm, ⟨4, _⟩ => ⟨S8x16384, .f32⟩
  | .hbm, ⟨5, _⟩ => ⟨S64x16384, .f32⟩
  | .hbm, ⟨6, _⟩ => ⟨S16384x8, .i32⟩
  | .hbm, ⟨7, _⟩ => ⟨S4x4096x8, .i32⟩
  | .hbm, ⟨8, _⟩ => ⟨S16384x8, .f32⟩
  | .hbm, ⟨9, _⟩ => ⟨S4x4096x8, .f32⟩
  | .hbm, ⟨10, _⟩ => ⟨S16384x64, .f32⟩
  | .hbm, ⟨11, _⟩ => ⟨S4x4096x64, .f32⟩
  | .local _ .vmem, ⟨0, _⟩ => ⟨S1024x1024, .f32⟩
  | .local _ .vmem, ⟨1, _⟩ => ⟨S1024x1024, .f32⟩
  | .local _ .vmem, ⟨2, _⟩ => ⟨S64x1024, .f32⟩
  | .local _ .vmem, ⟨3, _⟩ => ⟨S64x1024, .f32⟩
  | .local _ .vmem, ⟨4, _⟩ => ⟨S8x1024, .i32⟩
  | .local _ .vmem, ⟨5, _⟩ => ⟨S8x1024, .i32⟩
  | .local _ .vmem, ⟨6, _⟩ => ⟨S8x1024, .f32⟩
  | .local _ .vmem, ⟨7, _⟩ => ⟨S8x1024, .f32⟩
  | .local _ .vmem, ⟨8, _⟩ => ⟨S64x1024, .f32⟩
  | .local _ .vmem, ⟨9, _⟩ => ⟨S64x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_call0_v2 : Ref sig .tc := ⟨.hbm, 6, rfl⟩
abbrev main_v0_0 : Ref sig .tc := ⟨.hbm, 7, rfl⟩
abbrev main_call0_v4 : Ref sig .tc := ⟨.hbm, 8, rfl⟩
abbrev main_v0_1 : Ref sig .tc := ⟨.hbm, 9, rfl⟩
abbrev main_call0_v6 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S4x4096x8 : Shape := ⟨3, ![4, 4096, 8]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S4x4096x8, .f32⟩
  | .hbm, ⟨4, _⟩ => ⟨S4x4096x8, .i32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x8, .f32⟩
  | .hbm, ⟨12, _⟩ => ⟨S4x4096x8, .f32⟩
  | .hbm, ⟨13, _⟩ => ⟨S4x4096x8, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x8, .f32⟩
  | .hbm, ⟨18, _⟩ => ⟨S4x4096x8, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Selection.lean ====
/-
  Taking the largest entries of a column one at a time, as mathematics: the column is a function on `Fin n` with values in
  the extended reals, a round picks the first position holding the greatest value and then overwrites that position by `⊥`.
  When no entry of the column is `⊥`, the first `k ≤ n` picks are the first `k` positions of the stable descending sort of
  the column, and each round's maximum is the column's own entry at the position picked.
-/
module

public import Idealize.ShloMosaic.Lib.SortPrefix
public import Mathlib.Data.EReal.Basic

@[expose] public section

noncomputable section

namespace Cert.Router

open Idealize.ShloMosaic

variable {n : ℕ}

/-! ## The first greatest position -/

/-- `p` is the first position holding the greatest value of the column `x`. -/
def IsFirstMax (x : Fin n → EReal) (p : Fin n) : Prop :=
  (∀ e, x e ≤ x p) ∧ ∀ e, e < p → x e < x p

/-- A nonempty column has a first greatest position. -/
theorem exists_isFirstMax [NeZero n] (x : Fin n → EReal) : ∃ p, IsFirstMax x p := by
  classical
  obtain ⟨q, -, hq⟩ := Finset.exists_max_image (Finset.univ : Finset (Fin n)) x ⟨0, Finset.mem_univ _⟩
  have hne : (Finset.univ.filter fun e : Fin n => x e = x q).Nonempty := ⟨q, by simp⟩
  refine ⟨(Finset.univ.filter fun e : Fin n => x e = x q).min' hne, ?_⟩
  have hm : x ((Finset.univ.filter fun e : Fin n => x e = x q).min' hne) = x q :=
    (Finset.mem_filter.mp (Finset.min'_mem _ hne)).2
  refine ⟨fun e => by rw [hm]; exact hq e (Finset.mem_univ _), fun e he => ?_⟩
  rw [hm]
  refine lt_of_le_of_ne (hq e (Finset.mem_univ _)) fun h => ?_
  exact absurd (Finset.min'_le _ e (by simp [h])) (not_le.mpr he)

/-- A column has one first greatest position at most. -/
theorem IsFirstMax.unique {x : Fin n → EReal} {p q : Fin n} (hp : IsFirstMax x p) (hq : IsFirstMax x q) : p = q := by
  rcases lt_trichotomy p q with h | h | h
  · exact absurd (hp.1 q) (not_le.mpr (hq.2 p h))
  · exact h
  · exact absurd (hq.1 p) (not_le.mpr (hp.2 q h))

/-- The position a round picks. -/
def pick [NeZero n] (x : Fin n → EReal) : Fin n := (exists_isFirstMax x).choose

theorem pick_spec [NeZero n] (x : Fin n → EReal) : IsFirstMax x (pick x) := (exists_isFirstMax x).choose_spec

theorem pick_eq [NeZero n] {x : Fin n → EReal} {p : Fin n} (h : IsFirstMax x p) : pick x = p :=
  (pick_spec x).unique h

/-! ## The rounds -/

/-- The column as round `r` finds it: the positions picked by the rounds before overwritten by `⊥`. -/
def remaining [NeZero n] (x : Fin n → EReal) : ℕ → Fin n → EReal
  | 0 => x
  | r + 1 => Function.update (remaining x r) (pick (remaining x r)) ⊥

/-- The position round `r` picks. -/
def chosen [NeZero n] (x : Fin n → EReal) (r : ℕ) : Fin n := pick (remaining x r)

/-- A position picked before round `r` holds `⊥` there. -/
theorem remaining_of_chosen [NeZero n] (x : Fin n → EReal) {s r : ℕ} (h : s < r) : remaining x r (chosen x s) = ⊥ := by
  induction r with
  | zero => omega
  | succ r ih =>
    show Function.update (remaining x r) (pick (remaining x r)) ⊥ (chosen x s) = ⊥
    by_cases e : chosen x s = pick (remaining x r)
    · rw [e, Function.update_self]
    · rw [Function.update_of_ne e]
      refine ih (lt_of_le_of_ne (Nat.lt_succ_iff.mp h) fun hs => e ?_)
      rw [hs]
      rfl

/-- A position no round before `r` picked holds the column's own entry there. -/
theorem remaining_of_not_chosen [NeZero n] (x : Fin n → EReal) {r : ℕ} {e : Fin n} (h : ∀ s, s < r → chosen x s ≠ e) :
    remaining x r e = x e := by
  induction r with
  | zero => rfl
  | succ r ih =>
    show Function.update (remaining x r) (pick (remaining x r)) ⊥ e = x e
    rw [Function.update_of_ne (show e ≠ pick (remaining x r) from fun he => h r (Nat.lt_succ_self r) he.symm)]
    exact ih fun s hs => h s (Nat.lt_succ_of_lt hs)

/-- Before round `r < n` some position has not been picked yet. -/
theorem exists_not_chosen [NeZero n] (x : Fin n → EReal) {r : ℕ} (hr : r < n) : ∃ e, ∀ s, s < r → chosen x s ≠ e := by
  classical
  by_contra hcon
  push Not at hcon
  have hsub : (Finset.univ : Finset (Fin n)) ⊆ (Finset.range r).image (chosen x) := fun e _ => by
    obtain ⟨s, hs, he⟩ := hcon e
    exact Finset.mem_image.mpr ⟨s, Finset.mem_range.mpr hs, he⟩
  have := (Finset.card_le_card hsub).trans Finset.card_image_le
  rw [Finset.card_univ, Fintype.card_fin, Finset.card_range] at this
  omega

section NoBottom

variable [NeZero n] {x : Fin n → EReal} (hx : ∀ e, x e ≠ ⊥)
include hx

/-- Round `r < n` picks a position not picked before. -/
theorem chosen_ne {s r : ℕ} (hr : r < n) (h : s < r) : chosen x s ≠ chosen x r := fun e => by
  obtain ⟨q, hq⟩ := exists_not_chosen x hr
  have h1 : remaining x r (chosen x r) = ⊥ := by rw [← e]; exact remaining_of_chosen x h
  have h2 : remaining x r q ≤ remaining x r (chosen x r) := (pick_spec (remaining x r)).1 q
  rw [h1, remaining_of_not_chosen x hq, le_bot_iff] at h2
  exact hx q h2

/-- Round `r < n` finds the column's own entry at the position it picks. -/
theorem remaining_chosen {r : ℕ} (hr : r < n) : remaining x r (chosen x r) = x (chosen x r) :=
  remaining_of_not_chosen x fun _ hs => chosen_ne hx hr hs

/-- A position `q` not picked before round `r < n` does not come before the one picked then: its entry is at most the
    picked one, and smaller if it lies before it. -/
theorem chosen_first {r : ℕ} (hr : r < n) {q : Fin n} (hq : ∀ s, s < r → chosen x s ≠ q) :
    x q ≤ x (chosen x r) ∧ (q < chosen x r → x q < x (chosen x r)) := by
  rw [← remaining_of_not_chosen x hq, ← remaining_chosen hx hr]
  exact ⟨(pick_spec (remaining x r)).1 q, (pick_spec (remaining x r)).2 q⟩

/-- The picked entries descend. -/
theorem chosen_antitone {s r : ℕ} (hr : r < n) (h : s ≤ r) : x (chosen x r) ≤ x (chosen x s) := by
  rcases Nat.lt_or_eq_of_le h with h | rfl
  · exact (chosen_first hx (h.trans hr) fun s' hs' => chosen_ne hx hr (hs'.trans h)).1
  · exact le_rfl

end NoBottom

/-! ## The stable sort -/

/-- A stable sort asks of two positions only whether the later one comes before the earlier one, so two comparisons that
    agree on that sort alike. -/
theorem stableSort_congr_later {ι : Type} (R R' : ι → ι → Bool) (l : List ι) (h : l.Pairwise fun a b => R b a = R' b a) :
    stableSort R l = stableSort R' l := by
  induction l with
  | nil => rfl
  | cons a l ih =>
    obtain ⟨ha, hl⟩ := List.pairwise_cons.mp h
    unfold stableSort
    rw [ih hl]
    exact insertBefore_congr R R' a _ fun b hb => ha b ((perm_stableSort R' l).mem_iff.mp hb)

/-- Greater first, and of equals the earlier first. -/
def greaterThenEarlier (x : Fin n → EReal) (a b : Fin n) : Bool :=
  decide (x b < x a) || (decide (x a = x b) && decide (a < b))

theorem strictTotal_greaterThenEarlier (x : Fin n → EReal) : StrictTotalBefore (greaterThenEarlier x) := by
  classical
  exact StrictTotalBefore.of_key_then_position (fun u v : EReal => decide (v < u)) x (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)

/-- Sorted stably by the values alone, equal entries already stay in their order. -/
theorem sortedFrom_greater (x : Fin n → EReal) :
    sortedFrom (fun a b : Fin n => decide (x b < x a)) = sortedFrom (greaterThenEarlier x) := by
  have h : sortPositions n (fun a b : Fin n => decide (x b < x a)) = sortPositions n (greaterThenEarlier x) :=
    stableSort_congr_later _ _ _ ((List.pairwise_lt_finRange n).imp fun {a b} hab => by
      have : ¬ b < a := not_lt.mpr hab.le
      simp [greaterThenEarlier, this])
  funext k
  unfold sortedFrom
  rw [List.get_of_eq h]
  rfl

/-- THE SELECTION: on a column with no entry `⊥`, entry `r < k` of the stable descending sort comes from the position that
    round `r` picks. -/
theorem sortedFrom_eq_chosen [NeZero n] {x : Fin n → EReal} (hx : ∀ e, x e ≠ ⊥) {k : ℕ} (hk : k ≤ n) (r : Fin k) :
    sortedFrom (fun a b : Fin n => decide (x b < x a)) (r.castLE hk) = chosen x r.val := by
  rw [sortedFrom_greater]
  refine (strictTotal_greaterThenEarlier x).sortedFrom_eq_of_prefix hk (fun r : Fin k => chosen x r.val) ?_ ?_ ?_ r
  · intro i j h
    rcases lt_trichotomy i j with hij | hij | hij
    · exact absurd h (chosen_ne hx (j.isLt.trans_le hk) hij)
    · exact hij
    · exact absurd h.symm (chosen_ne hx (i.isLt.trans_le hk) hij)
  · intro i j hij
    obtain ⟨h1, h2⟩ := chosen_first hx (r := i.val) (i.isLt.trans_le hk) (q := chosen x j.val)
      fun s hs => chosen_ne hx (j.isLt.trans_le hk) (lt_trans hs hij)
    simp only [greaterThenEarlier, Bool.or_eq_false_iff, Bool.and_eq_false_iff, decide_eq_false_iff_not, not_lt]
    refine ⟨h1, ?_⟩
    by_cases e : chosen x j.val < chosen x i.val
    · exact Or.inl (h2 e).ne
    · exact Or.inr (not_lt.mp e)
  · intro i p hp
    obtain ⟨h1, h2⟩ := chosen_first hx (r := i.val) (i.isLt.trans_le hk) (q := p)
      fun s hs => hp ⟨s, lt_trans hs i.isLt⟩
    simp only [greaterThenEarlier, Bool.or_eq_false_iff, Bool.and_eq_false_iff, decide_eq_false_iff_not, not_lt]
    refine ⟨h1, ?_⟩
    by_cases e : p < chosen x i.val
    · exact Or.inl (h2 e).ne
    · exact Or.inr (not_lt.mp e)

end Cert.Router

end
-- ==== Proof.Rounds.lean ====
/-
  One selection round of the kernel on a `[64, 1024]` block of logits (an expert per row, a token per column), read column by
  column: the row of column maxima, the row of first positions attaining them, the block with those positions overwritten
  by −∞. On each column these are the operations of Selection.lean; so after `r` rounds a column is `remaining _ r`.
-/
module

public import proofs.«01_k».proof.Proof.Selection
public import proofs.«01_k».proof.Proof.Gen.KernelIdeal.Skeleton
public import Idealize.ShloMosaic.Lib.ValueLayout
public import Idealize.ShloMosaic.Lib.SortNet.Extract
public import Idealize.ShloMosaic.PureOps.Ideal.Laws

@[expose] public section

noncomputable section

namespace Cert.Router

open Idealize.ShloMosaic Idealize.ShloMosaic.ValueIdx
open Cert.KernelIdeal Cert.KernelIdeal.Gen

/-! ## Two folds that a first greatest position decides -/

/-- The pattern of −∞ denotes the least extended real. -/
theorem ofBits_negInf : (FloatOps.ofBits .f32 0xFF800000#32 : Ideal .f32) = (⊥ : EReal) := by
  show Ideal.ofBits .f32 0xFF800000#32 = ⊥
  simp [Ideal.ofBits, Ideal.ieee]

/-- The maximum of a column, folded from −∞, is the entry at the first greatest position. -/
theorem fold_max_eq {n : ℕ} {x : Fin n → EReal} {p : Fin n} (h : IsFirstMax x p) :
    (Finset.univ : Finset (Fin n)).fold max ⊥ x = x p :=
  le_antisymm (Finset.fold_max_le _ |>.mpr ⟨bot_le, fun e _ => h.1 e⟩)
    (Finset.le_fold_max _ |>.mpr (Or.inr ⟨p, Finset.mem_univ _, le_rfl⟩))

/-- A position below 64 read as a signed word is itself. -/
theorem toInt_position {e : ℕ} (h : e < 64) : (BitVec.ofNat 32 e).toInt = (e : ℤ) := by
  rw [BitVec.toInt_eq_toNat_of_lt] <;> rw [BitVec.toNat_ofNat] <;> omega

/-- The signed minimum of "the position where the column attains `m`, else 64" is the first position attaining it. -/
theorem fold_minsi_eq {x : Fin 64 → EReal} {p : Fin 64} (h : IsFirstMax x p) :
    (Finset.univ : Finset (Fin 64)).fold IntOp.minsi 2147483647#32 (fun e => if x e = x p then BitVec.ofNat 32 e.val else 64#32)
      = BitVec.ofNat 32 p.val := by
  apply BitVec.eq_of_toInt_eq
  have hom := Finset.fold_hom (op := IntOp.minsi) (op' := min) (s := (Finset.univ : Finset (Fin 64)))
    (f := fun e => if x e = x p then BitVec.ofNat 32 e.val else 64#32) (b := 2147483647#32)
    (m := BitVec.toInt) (fun a b => SortNet.toInt_minsi a b)
  rw [← hom, toInt_position p.isLt]
  refine le_antisymm ?_ ?_
  · refine Finset.fold_min_le _ |>.mpr (Or.inr ⟨p, Finset.mem_univ _, ?_⟩)
    simp only [if_true]
    exact (toInt_position p.isLt).le
  · refine Finset.le_fold_min _ |>.mpr ⟨?_, fun e _ => ?_⟩
    · have : (2147483647#32 : BitVec 32).toInt = 2147483647 := by decide
      have := p.isLt
      omega
    · by_cases he : x e = x p
      · simp only [he, if_true]
        rw [toInt_position e.isLt]
        have : p ≤ e := by
          by_contra hlt
          exact absurd he (h.2 e (not_le.mp hlt)).ne
        exact_mod_cast this
      · simp only [he, if_false]
        have : (64#32 : BitVec 32).toInt = 64 := by decide
        have := p.isLt
        omega

/-! ## A round as the kernel writes it -/

/-- The row of column maxima. -/
def roundMax (w : FVec Ideal S64x1024 .f32) : FVec Ideal S1x1024 .f32 :=
  shapeCast S1x1024 (multiReduction .maximumf [0] S1024 w 0xFF800000#32 reduces_S64x1024_S1024 (.inl rfl) rfl)
    shapeCasts_S1024_S1x1024

/-- The row of first positions attaining them. -/
def roundIdx (w : FVec Ideal S64x1024 .f32) : IVec S1x1024 32 :=
  shapeCast S1x1024 (multiReductionI .minsi [0] S1024
    (select (cmpf .oeq w (broadcastTo S64x1024 (roundMax w) broadcasts_S1x1024_S64x1024))
      (iota .tc S64x1024 32 [0] iota_S64x1024_d0_w32) (broadcast S64x1024 64#32)) 2147483647#32 reduces_S64x1024_S1024 rfl)
    shapeCasts_S1024_S1x1024

/-- The block with those positions overwritten by −∞. -/
def roundNext (w : FVec Ideal S64x1024 .f32) : FVec Ideal S64x1024 .f32 :=
  select (cmpi .eq (iota .tc S64x1024 32 [0] iota_S64x1024_d0_w32) (broadcastTo S64x1024 (roundIdx w) broadcasts_S1x1024_S64x1024))
    (broadcast S64x1024 (Scalar.ofBits .f32 0xFF800000#32)) w

/-- The block as round `r` finds it. -/
def work (w : FVec Ideal S64x1024 .f32) : ℕ → FVec Ideal S64x1024 .f32
  | 0 => w
  | r + 1 => roundNext (work w r)

/-- Column `j` of a block. -/
def column (w : FVec Ideal S64x1024 .f32) (j : Fin 1024) : Fin 64 → EReal := fun e => w (ix2 e j)

theorem column_apply (w : FVec Ideal S64x1024 .f32) (j : Fin 1024) (e : Fin 64) : column w j e = w (ix2 e j) := rfl

/-- The source index of a reduction down the rows: the row inserted above the column. -/
theorem lift_rows (h : S64x1024.Reduces [0] S1024) (j : Fin 1024) (e : Fin 64) : h.lift (ix1 j) e = ix2 e j := by
  funext a
  match a with
  | ⟨0, _⟩ => rfl
  | ⟨1, _⟩ => rfl

theorem roundMax_apply (w : FVec Ideal S64x1024 .f32) (u : Fin 1) (j : Fin 1024) :
    roundMax w (ix2 u j) = column w j (pick (column w j)) := by
  unfold roundMax
  refine (shapeCast_a_1a_apply _ _ u j).trans ?_
  refine (Ideal.multiReduction_maximumf_single w _ _ _ _ (ix1 j)).trans ?_
  rw [ofBits_negInf]
  refine Eq.trans ?_ (fold_max_eq (pick_spec (column w j)))
  refine Finset.fold_congr fun e _ => ?_
  exact congrArg w (lift_rows _ j e)

theorem iota_rows_apply (e : Fin 64) (j : Fin 1024) :
    iota .tc S64x1024 32 [0] iota_S64x1024_d0_w32 (ix2 e j) = BitVec.ofNat 32 e.val := by
  show BitVec.ofNat 32 (0 * 64 + e.val) = _
  rw [Nat.zero_mul, Nat.zero_add]

theorem roundIdx_apply (w : FVec Ideal S64x1024 .f32) (u : Fin 1) (j : Fin 1024) :
    roundIdx w (ix2 u j) = BitVec.ofNat 32 (pick (column w j)).val := by
  unfold roundIdx
  refine (shapeCast_a_1a_apply _ _ u j).trans ?_
  refine (multiReductionI_eq_fold _ _ _ _ _ (ix1 j)).trans ?_
  rw [reduces_S64x1024_S1024.fold_filter_drop_single]
  refine Eq.trans ?_ (fold_minsi_eq (pick_spec (column w j)))
  refine Finset.fold_congr fun (e : Fin 64) _ => ?_
  refine (congrArg (select _ _ _) (lift_rows reduces_S64x1024_S1024 j e)).trans ?_
  show (if Ideal.cmp .oeq (w (ix2 e j)) (broadcastTo S64x1024 (roundMax w) broadcasts_S1x1024_S64x1024 (ix2 e j)) = 1#1 then _ else _) = _
  rw [broadcastTo_1b_ab_apply, roundMax_apply, iota_rows_apply]
  show (if BitVec.ofBool (decide (column w j e = column w j (pick (column w j)))) = 1#1 then _ else 64#32) = _
  by_cases h : column w j e = column w j (pick (column w j)) <;> simp [h]

theorem roundNext_apply (w : FVec Ideal S64x1024 .f32) (e : Fin 64) (j : Fin 1024) :
    roundNext w (ix2 e j) = Function.update (column w j) (pick (column w j)) ⊥ e := by
  show (if BitVec.ofBool (iota .tc S64x1024 32 [0] iota_S64x1024_d0_w32 (ix2 e j)
    == broadcastTo S64x1024 (roundIdx w) broadcasts_S1x1024_S64x1024 (ix2 e j)) = 1#1
    then (FloatOps.ofBits .f32 0xFF800000#32 : Ideal .f32) else w (ix2 e j)) = _
  rw [broadcastTo_1b_ab_apply, roundIdx_apply, iota_rows_apply, ofBits_negInf]
  by_cases h : e = pick (column w j)
  · rw [← h, Function.update_self]
    simp
  · rw [Function.update_of_ne h]
    have hne : ¬ BitVec.ofNat 32 e.val = BitVec.ofNat 32 (pick (column w j)).val := fun he => h (Fin.ext (by
      have := congrArg BitVec.toInt he
      rw [toInt_position e.isLt, toInt_position (pick (column w j)).isLt] at this
      exact_mod_cast this))
    rw [if_neg]
    · rfl
    · rw [beq_eq_false_iff_ne.mpr hne]
      decide

/-- After `r` rounds a column is what `r` rounds of Selection.lean leave of it. -/
theorem column_work (w : FVec Ideal S64x1024 .f32) (r : ℕ) (j : Fin 1024) :
    column (work w r) j = remaining (column w j) r := by
  induction r with
  | zero => rfl
  | succ r ih =>
    rw [remaining, ← ih, work]
    exact funext fun e => (column_apply _ j e).trans (roundNext_apply (work w r) e j)

/-- Round `r`'s row of positions: the ones chosen. -/
theorem roundIdx_work (w : FVec Ideal S64x1024 .f32) (r : ℕ) (u : Fin 1) (j : Fin 1024) :
    roundIdx (work w r) (ix2 u j) = BitVec.ofNat 32 (chosen (column w j) r).val := by
  rw [roundIdx_apply, column_work]
  rfl

/-- Round `r`'s row of maxima, on a column with no entry −∞: the column's own entries at the positions chosen. -/
theorem roundMax_work (w : FVec Ideal S64x1024 .f32) {r : ℕ} (hr : r < 64) (u : Fin 1) (j : Fin 1024)
    (hx : ∀ e, column w j e ≠ ⊥) :
    roundMax (work w r) (ix2 u j) = column w j (chosen (column w j) r) := by
  have key : ∀ y : Fin 64 → EReal, y = remaining (column w j) r → y (pick y) = column w j (chosen (column w j) r) := by
    intro y hy
    subst hy
    exact remaining_chosen hx hr
  exact (roundMax_apply _ u j).trans (key _ (column_work w r j))

end Cert.Router

end
-- ==== Proof.Rows.lean ====
/-
  The two blocks the eight rounds fill. Row `r` of the positions is the position round `r` picks; row `r` of the weights is
  the softmax, over the eight picked entries, of the `r`-th (the first, greatest, one subtracted before the exponential).
-/
module

public import proofs.«01_k».proof.Proof.Rounds
public import Idealize.ShloMosaic.Lib.Pointwise.SelectCore

@[expose] public section

noncomputable section

namespace Cert.Router

open Idealize.ShloMosaic hiding ix1 ix2 ix3
open Idealize.ShloMosaic.ValueIdx
open Cert.KernelIdeal Cert.KernelIdeal.Gen

/-! ## Eight rows stacked -/

/-- The `[8, 1024]` block whose row `r` is `f r`. -/
def stack {α : Type} (f : Fin 8 → S1x1024.Idx → α) : S8x1024.Idx → α :=
  concatenate S8x1024 0 (List.ofFn fun r : Fin 8 => (⟨S1x1024, f r⟩ : (s : Shape) × (s.Idx → α)))
    concatenates_S1x1024_S1x1024_S1x1024_S1x1024_S1x1024_S1x1024_S1x1024_S1x1024_S8x1024_d0

theorem stack_apply {α : Type} (f : Fin 8 → S1x1024.Idx → α) (r : Fin 8) (j : Fin 1024) :
    stack f (ix2 r j) = f r (ix2 0 j) := by
  refine (concatenate_ofFn_unit_apply' (t := S8x1024) (s₁ := S1x1024) 0 f _ rfl (ix2 r j)).trans ?_
  refine congrArg (f r) ?_
  funext a
  match a with
  | ⟨0, _⟩ => rfl
  | ⟨1, _⟩ => rfl

/-! ## The blocks -/

/-- The positions the rounds pick on `w`, a round per row. -/
def positions (w : FVec Ideal S64x1024 .f32) : IVec S8x1024 32 := stack fun r => roundIdx (work w r.val)

/-- The entries the rounds pick on `w`, a round per row. -/
def maxima (w : FVec Ideal S64x1024 .f32) : FVec Ideal S8x1024 .f32 := stack fun r => roundMax (work w r.val)

/-- The exponentials of the picked entries, the first one subtracted. -/
def exponentials (w : FVec Ideal S64x1024 .f32) : FVec Ideal S8x1024 .f32 :=
  exp (subf (maxima w) (broadcastTo S8x1024 (extractStridedSlice S1x1024 ![0, 0] (maxima w) slices_S8x1024_o0_0_S1x1024)
    broadcasts_S1x1024_S8x1024))

/-- The softmax of the picked entries. -/
def weights (w : FVec Ideal S64x1024 .f32) : FVec Ideal S8x1024 .f32 :=
  divf (exponentials w) (broadcastTo S8x1024
    (shapeCast S1x1024 (multiReduction .add [0] S1024 (exponentials w) 0x00000000#32 reduces_S8x1024_S1024 (.inl rfl) rfl)
      shapeCasts_S1024_S1x1024) broadcasts_S1x1024_S8x1024)

/-! ## The rounds in the kernel's order -/

section Payloads

variable (w : Vec Ideal S64x1024 .f32)

theorem pay5_eq : k0_pay5 w = work w 0 := shapeCast_self w _
theorem pay6_eq : k0_pay6 w = roundMax (work w 0) := by rw [← pay5_eq]; rfl
theorem pay7_eq : k0_pay7 w = roundIdx (work w 0) := by rw [← pay5_eq]; rfl
theorem pay8_eq : k0_pay8 w = work w 1 := by rw [work, ← pay5_eq]; rfl
theorem pay9_eq : k0_pay9 w = roundMax (work w 1) := by rw [← pay8_eq]; rfl
theorem pay10_eq : k0_pay10 w = roundIdx (work w 1) := by rw [← pay8_eq]; rfl
theorem pay11_eq : k0_pay11 w = work w 2 := by rw [work, ← pay8_eq]; rfl
theorem pay12_eq : k0_pay12 w = roundMax (work w 2) := by rw [← pay11_eq]; rfl
theorem pay13_eq : k0_pay13 w = roundIdx (work w 2) := by rw [← pay11_eq]; rfl
theorem pay14_eq : k0_pay14 w = work w 3 := by rw [work, ← pay11_eq]; rfl
theorem pay15_eq : k0_pay15 w = roundMax (work w 3) := by rw [← pay14_eq]; rfl

/-- The rows' numbers, which every round compares against. -/
abbrev rowNumbers : IVec S64x1024 32 := iota .tc S64x1024 32 [0] iota_S64x1024_d0_w32

theorem pay18_eq : k0_pay18 rowNumbers (k0_pay16 w) k0_pay17 = roundIdx (work w 3) := by rw [← pay14_eq]; rfl
theorem pay19_eq : k0_pay19 rowNumbers (k0_pay14 w) (k0_pay16 w) k0_pay17 = work w 4 := by rw [work, ← pay14_eq]; rfl
theorem pay20_eq : k0_pay20 rowNumbers (k0_pay14 w) (k0_pay16 w) k0_pay17 = roundMax (work w 4) := by rw [← pay19_eq]; rfl
theorem pay21_eq : k0_pay21 rowNumbers (k0_pay14 w) (k0_pay16 w) k0_pay17 = roundIdx (work w 4) := by rw [← pay19_eq]; rfl
theorem pay22_eq : k0_pay22 rowNumbers (k0_pay14 w) (k0_pay16 w) k0_pay17 = work w 5 := by rw [work, ← pay19_eq]; rfl
theorem pay23_eq : k0_pay23 rowNumbers (k0_pay14 w) (k0_pay16 w) k0_pay17 = roundMax (work w 5) := by rw [← pay22_eq]; rfl
theorem pay24_eq : k0_pay24 rowNumbers (k0_pay14 w) (k0_pay16 w) k0_pay17 = roundIdx (work w 5) := by rw [← pay22_eq]; rfl
theorem pay25_eq : k0_pay25 rowNumbers (k0_pay14 w) (k0_pay16 w) k0_pay17 = work w 6 := by rw [work, ← pay22_eq]; rfl
theorem pay26_eq : k0_pay26 rowNumbers (k0_pay14 w) (k0_pay16 w) k0_pay17 = roundMax (work w 6) := by rw [← pay25_eq]; rfl
theorem pay27_eq : k0_pay27 rowNumbers (k0_pay14 w) (k0_pay16 w) k0_pay17 = roundIdx (work w 6) := by rw [← pay25_eq]; rfl
theorem pay28_eq : k0_pay28 rowNumbers (k0_pay14 w) (k0_pay16 w) k0_pay17 = work w 7 := by rw [work, ← pay25_eq]; rfl
theorem pay29_eq : k0_pay29 rowNumbers (k0_pay14 w) (k0_pay16 w) k0_pay17 = roundMax (work w 7) := by rw [← pay28_eq]; rfl

/-- What the kernel stores in the positions window. -/
theorem positions_eq :
    k0_pay3 rowNumbers (k0_pay7 w) (k0_pay10 w) (k0_pay13 w) (k0_pay18 rowNumbers (k0_pay16 w) k0_pay17)
      (k0_pay21 rowNumbers (k0_pay14 w) (k0_pay16 w) k0_pay17) (k0_pay24 rowNumbers (k0_pay14 w) (k0_pay16 w) k0_pay17)
      (k0_pay27 rowNumbers (k0_pay14 w) (k0_pay16 w) k0_pay17) (k0_pay28 rowNumbers (k0_pay14 w) (k0_pay16 w) k0_pay17)
      (k0_pay29 rowNumbers (k0_pay14 w) (k0_pay16 w) k0_pay17) = positions w := by
  rw [pay7_eq, pay10_eq, pay13_eq, pay18_eq, pay21_eq, pay24_eq, pay27_eq, pay28_eq, pay29_eq]
  rfl

/-- What the kernel stores in the weights window. -/
theorem weights_eq :
    k0_pay4 (k0_pay6 w) (k0_pay9 w) (k0_pay12 w) (k0_pay15 w) (k0_pay20 rowNumbers (k0_pay14 w) (k0_pay16 w) k0_pay17)
      (k0_pay23 rowNumbers (k0_pay14 w) (k0_pay16 w) k0_pay17) (k0_pay26 rowNumbers (k0_pay14 w) (k0_pay16 w) k0_pay17)
      (k0_pay29 rowNumbers (k0_pay14 w) (k0_pay16 w) k0_pay17) = weights w := by
  rw [pay6_eq, pay9_eq, pay12_eq, pay15_eq, pay20_eq, pay23_eq, pay26_eq, pay29_eq]
  rfl

end Payloads

/-! ## The blocks at an index -/

theorem positions_apply (w : FVec Ideal S64x1024 .f32) (r : Fin 8) (j : Fin 1024) :
    positions w (ix2 r j) = BitVec.ofNat 32 (chosen (column w j) r.val).val :=
  (stack_apply _ r j).trans (roundIdx_work w r.val 0 j)

/-- The softmax of the first eight picked entries of a column, at the `r`-th. -/
def softmaxAt (x : Fin 64 → EReal) (r : Fin 8) : EReal :=
  Ideal.div (Ideal.exp (x (chosen x r.val) - x (chosen x 0))) (∑ s : Fin 8, Ideal.exp (x (chosen x s.val) - x (chosen x 0)))

section Weights

variable (w : FVec Ideal S64x1024 .f32) (j : Fin 1024) (hx : ∀ e, column w j e ≠ ⊥)

include hx

theorem maxima_apply (r : Fin 8) : maxima w (ix2 r j) = column w j (chosen (column w j) r.val) :=
  (stack_apply _ r j).trans (roundMax_work w (by omega) 0 j hx)

theorem exponentials_apply (r : Fin 8) :
    exponentials w (ix2 r j)
      = Ideal.exp (column w j (chosen (column w j) r.val) - column w j (chosen (column w j) 0)) := by
  show Ideal.exp (maxima w (ix2 r j) - broadcastTo S8x1024 (extractStridedSlice S1x1024 ![0, 0] (maxima w)
    slices_S8x1024_o0_0_S1x1024) broadcasts_S1x1024_S8x1024 (ix2 r j)) = _
  rw [broadcastTo_1b_ab_apply, maxima_apply w j hx r]
  have h0 : extractStridedSlice S1x1024 ![0, 0] (maxima w) slices_S8x1024_o0_0_S1x1024 (ix2 0 j) = maxima w (ix2 0 j) := by
    refine congrArg (maxima w) ?_
    funext a
    match a with
    | ⟨0, _⟩ => rfl
    | ⟨1, _⟩ => exact Fin.ext (Nat.zero_add _)
  rw [h0, maxima_apply w j hx 0]
  rfl

theorem weights_apply (r : Fin 8) : weights w (ix2 r j) = softmaxAt (column w j) r := by
  show Ideal.div (exponentials w (ix2 r j)) (broadcastTo S8x1024 (shapeCast S1x1024 (multiReduction .add [0] S1024
    (exponentials w) 0x00000000#32 reduces_S8x1024_S1024 (.inl rfl) rfl) shapeCasts_S1024_S1x1024)
    broadcasts_S1x1024_S8x1024 (ix2 r j)) = _
  rw [broadcastTo_1b_ab_apply, shapeCast_a_1a_apply, exponentials_apply w j hx r]
  refine congrArg (Ideal.div _) ?_
  refine (Ideal.multiReduction_add_single (exponentials w) _ _ _ _ (ix1 j)).trans ?_
  refine Finset.sum_congr rfl fun (s : Fin 8) _ => ?_
  refine Eq.trans (congrArg (exponentials w) ?_) (exponentials_apply w j hx s)
  funext a
  match a with
  | ⟨0, _⟩ => rfl
  | ⟨1, _⟩ => rfl

end Weights

end Cert.Router

end
-- ==== Proof.Cases.lean ====
/-
  What one grid point leaves in the three output windows, as values of what its input windows hold: at the first block of a
  row of the grid the logits window is the product of the two input blocks; at a later one it is what it held plus that
  product; at the last one the eight rounds run on it and fill the other two windows.
-/
module

public import proofs.«01_k».proof.Proof.Rows
public import proofs.«01_k».proof.Proof.Gen.KernelIdeal.Frame
public import Idealize.ShloMosaic.Lib.Tactic

@[expose] public section

noncomputable section

namespace Cert.Router

open Idealize.ShloMosaic Idealize.ShloMosaic.TcCoe Idealize.SL.Sem
open Cert.KernelIdeal Cert.KernelIdeal.Gen

theorem offsets_zero : (![0, 0] : Fin 2 → Nat) = fun _ => 0 := funext fun a => by fin_cases a <;> rfl

variable (c : Dev nD) (i : grid0.Coords) (arg2 : Memref sig .tc .vmem S1024x1024 .f32) (harg2 : arg2.IsWhole)
  (arg3 : Memref sig .tc .vmem S64x1024 .f32) (harg3 : arg3.IsWhole) (arg4 : Memref sig .tc .vmem S8x1024 .i32)
  (harg4 : arg4.IsWhole) (arg5 : Memref sig .tc .vmem S8x1024 .f32) (harg5 : arg5.IsWhole)
  (arg6 : Memref sig .tc .vmem S64x1024 .f32) (harg6 : arg6.IsWhole)
  (x0 : Vec Ideal S1024x1024 .f32) (x1 : Vec Ideal S64x1024 .f32) (xo : Vec Ideal S64x1024 .f32)

/-- First block: the logits window is the product. -/
theorem logits_first (hc0 : cond0_0 i) (hc1 : ¬cond0_1 i) (hc2 : ¬cond0_2 i) :
    out0_A_4 c i arg2 harg2 arg3 harg3 arg4 harg4 arg5 harg5 arg6 harg6 hc0 hc1 hc2 x0 x1 = k0_pay1 x0 x1 := by
  unfold out0_A_4
  rw [View.read_writes_eq_canon _ _ _ (cover0_A_4 c i arg2 harg2 arg3 harg3 arg4 harg4 arg5 harg5 arg6 harg6 hc0 hc1 hc2 x0 x1)]
  unfold kernelRun0_A
  dsimp only
  rw [View.canon_unit_zero offsets_zero]
  simp only [View.readAt_eq_ld, harg2.read_unread, harg3.read_unread, View.ld_unit_zero (S := S1024x1024) offsets_zero,
    View.ld_unit_zero (S := S64x1024) offsets_zero]

/-- A later block, not the last: what the window held, plus the product. -/
theorem logits_later (hc0 : ¬cond0_0 i) (hc1 : cond0_1 i) (hc2 : ¬cond0_2 i) :
    out0_B_4 c i arg2 harg2 arg3 harg3 arg4 harg4 arg5 harg5 arg6 harg6 hc0 hc1 hc2 x0 x1 xo = k0_pay2 x0 x1 xo := by
  unfold out0_B_4
  rw [View.read_writes_eq_canon _ _ _ (cover0_B_4 c i arg2 harg2 arg3 harg3 arg4 harg4 arg5 harg5 arg6 harg6 hc0 hc1 hc2 x0 x1 xo)]
  unfold kernelRun0_B
  dsimp only
  rw [View.canon_unit_zero offsets_zero]
  simp only [View.readAt_eq_ld, harg2.read_unread, harg3.read_unread, harg6.read_unread,
    View.ld_unit_zero (S := S1024x1024) offsets_zero, View.ld_unit_zero (S := S64x1024) offsets_zero]

/-- The last block: the same. -/
theorem logits_last (hc0 : ¬cond0_0 i) (hc1 : cond0_1 i) (hc2 : cond0_2 i) :
    out0_C_4 c i arg2 harg2 arg3 harg3 arg4 harg4 arg5 harg5 arg6 harg6 hc0 hc1 hc2 x0 x1 xo = k0_pay2 x0 x1 xo := by
  unfold out0_C_4
  rw [View.read_writes_eq_canon _ _ _ (cover0_C_4 c i arg2 harg2 arg3 harg3 arg4 harg4 arg5 harg5 arg6 harg6 hc0 hc1 hc2 x0 x1 xo)]
  unfold kernelRun0_C
  dsimp only
  sl_unfold_words
  rw [View.canon_unit_zero offsets_zero]
  simp only [View.readAt_eq_ld, harg2.read_unread, harg3.read_unread, harg6.read_unread,
    View.ld_unit_zero (S := S1024x1024) offsets_zero, View.ld_unit_zero (S := S64x1024) offsets_zero]

/-- The last block: the positions picked on the finished logits. -/
theorem positions_last (hc0 : ¬cond0_0 i) (hc1 : cond0_1 i) (hc2 : cond0_2 i) :
    out0_C_2 c i arg2 harg2 arg3 harg3 arg4 harg4 arg5 harg5 arg6 harg6 hc0 hc1 hc2 x0 x1 xo = positions (k0_pay2 x0 x1 xo) := by
  unfold out0_C_2
  rw [View.read_writes_eq_canon _ _ _ (cover0_C_2 c i arg2 harg2 arg3 harg3 arg4 harg4 arg5 harg5 arg6 harg6 hc0 hc1 hc2 x0 x1 xo)]
  unfold kernelRun0_C
  dsimp only
  sl_unfold_words
  rw [View.canon_unit_zero offsets_zero]
  simp only [View.readCov_unit_zero (S := S64x1024) _ offsets_zero, View.readAt_eq_ld, harg2.read_unread, harg3.read_unread,
    harg6.read_unread, View.ld_unit_zero (S := S1024x1024) offsets_zero, View.ld_unit_zero (S := S64x1024) offsets_zero]
  exact positions_eq _

/-- The last block: the softmax of the entries picked on the finished logits. -/
theorem weights_last (hc0 : ¬cond0_0 i) (hc1 : cond0_1 i) (hc2 : cond0_2 i) :
    out0_C_3 c i arg2 harg2 arg3 harg3 arg4 harg4 arg5 harg5 arg6 harg6 hc0 hc1 hc2 x0 x1 xo = weights (k0_pay2 x0 x1 xo) := by
  unfold out0_C_3
  rw [View.read_writes_eq_canon _ _ _ (cover0_C_3 c i arg2 harg2 arg3 harg3 arg4 harg4 arg5 harg5 arg6 harg6 hc0 hc1 hc2 x0 x1 xo)]
  unfold kernelRun0_C
  dsimp only
  sl_unfold_words
  rw [View.canon_unit_zero offsets_zero]
  simp only [View.readCov_unit_zero (S := S64x1024) _ offsets_zero, View.readAt_eq_ld, harg2.read_unread, harg3.read_unread,
    harg6.read_unread, View.ld_unit_zero (S := S1024x1024) offsets_zero, View.ld_unit_zero (S := S64x1024) offsets_zero]
  exact weights_eq _

end Cert.Router

end
-- ==== Proof.Logits.lean ====
/-
  The accumulated logits. The grid walks a row of four points per block of 1024 tokens; point `4i + k` adds the product of
  columns `[1024k, 1024k + 1024)` of the weights and of the tokens. So after it the logits window holds the products summed
  over the first `1024 (k + 1)` columns, and after the fourth point the whole sum over 4096 columns.
-/
module

public import proofs.«01_k».proof.Proof.Cases
public import Idealize.ShloMosaic.Lib.MatmulPlain

@[expose] public section

noncomputable section

namespace Cert.Router

open Idealize.ShloMosaic hiding ix1 ix2 ix3
open Idealize.ShloMosaic.TcCoe Idealize.ShloMosaic.ValueIdx Idealize.SL.Sem
open Cert.KernelIdeal Cert.KernelIdeal.Gen

/-! ## One block product -/

theorem dot_eq : dot_S64x1024_S1024x1024_S64x1024_1_1_0_0_n_n = DotDims.transposedRhs 64 1024 1024 := rfl

theorem product_apply (x0 : Vec Ideal S1024x1024 .f32) (x1 : Vec Ideal S64x1024 .f32) (e : Fin 64) (j : Fin 1024) :
    k0_pay1 x0 x1 (ix2 e j) = ∑ d : Fin 1024, (x1 (ix2 e d) : EReal) * x0 (ix2 j d) := by
  unfold k0_pay1
  rw [shapeCast_self, dot_eq]
  refine (Ideal.matmul_transposedRhs_apply none x1 x0 _ e j).trans ?_
  refine (congrArg (· + _) Ideal.ofBits_zero_f32).trans (zero_add _)

theorem sum_apply (x0 : Vec Ideal S1024x1024 .f32) (x1 xo : Vec Ideal S64x1024 .f32) (e : Fin 64) (j : Fin 1024) :
    k0_pay2 x0 x1 xo (ix2 e j) = (xo (ix2 e j) : EReal) + ∑ d : Fin 1024, (x1 (ix2 e d) : EReal) * x0 (ix2 j d) := by
  unfold k0_pay2
  rw [shapeCast_self]
  exact congrArg (_ + ·) (product_apply x0 x1 e j)

/-! ## The input blocks -/

variable (m : (ℓ : Loc nD τ sig) → Buf (Elt Ideal) ℓ) (c : Dev nD)

/-- The tokens as the grid reads them, a token per row. -/
def tokens : S16384x4096.Idx → EReal := V m c main_call0_v0

/-- The weights as the grid reads them, an expert per row. -/
def experts : S64x4096.Idx → EReal := V m c main_arg1

theorem index_tokens : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index_experts : ∀ t : Fin cfg0.N, win0_1.index t 0 = 0 ∧ win0_1.index t 1 = t.val % 4 :=
  (by decide +kernel : ∀ t : Fin grid0.N, win0_1.index t 0 = 0 ∧ win0_1.index t 1 = t.val % 4)

theorem point_lt (t : Fin cfg0.N) : t.val < 64 := by have h : cfg0.N = 64 := N_0; have := t.isLt; omega

/-- The token of column `j` of the block of point `t`. -/
def token (t : ℕ) (ht : t < 64) (j : Fin 1024) : Fin 16384 := ⟨1024 * (t / 4) + j.val, by omega⟩

/-- The `d`-th of the columns point `t` multiplies. -/
def feature (t : ℕ) (d : Fin 1024) : Fin 4096 := ⟨1024 * (t % 4) + d.val, by omega⟩

/-- The block of tokens point `t` reads. -/
def tokensBlock (t : Fin cfg0.N) : Vec Ideal S1024x1024 .f32 := iblk m c 0 t

/-- The block of weights point `t` reads. -/
def expertsBlock (t : Fin cfg0.N) : Vec Ideal S64x1024 .f32 := iblk m c 1 t

theorem tokens_block (t : Fin cfg0.N) (j d : Fin 1024) :
    (tokensBlock m c t (ix2 j d) : EReal) = tokens m c (ix2 (token t.val (point_lt t) j) (feature t.val d)) := by
  unfold tokensBlock iblk tokens
  rw [View.read_apply]
  refine congrArg (V m c main_call0_v0) ?_
  funext a
  apply Fin.ext
  match a with
  | ⟨0, _⟩ =>
    show win0_0.index t 0 * 1024 + 1 * j.val = 1024 * (t.val / 4) + j.val
    rw [(index_tokens t).1]; omega
  | ⟨1, _⟩ =>
    show win0_0.index t 1 * 1024 + 1 * d.val = 1024 * (t.val % 4) + d.val
    rw [(index_tokens t).2]; omega

theorem experts_block (t : Fin cfg0.N) (e : Fin 64) (d : Fin 1024) :
    (expertsBlock m c t (ix2 e d) : EReal) = experts m c (ix2 e (feature t.val d)) := by
  unfold expertsBlock iblk experts
  rw [View.read_apply]
  refine congrArg (V m c main_arg1) ?_
  funext a
  apply Fin.ext
  match a with
  | ⟨0, _⟩ =>
    show win0_1.index t 0 * 64 + 1 * e.val = e.val
    rw [(index_experts t).1]; omega
  | ⟨1, _⟩ =>
    show win0_1.index t 1 * 1024 + 1 * d.val = 1024 * (t.val % 4) + d.val
    rw [(index_experts t).2]; omega

/-! ## The sum so far -/

/-- The product of weight and token at column `d`; zero past the last column. -/
def term (e : Fin 64) (n : Fin 16384) (d : ℕ) : EReal :=
  if h : d < 4096 then experts m c (ix2 e ⟨d, h⟩) * tokens m c (ix2 n ⟨d, h⟩) else 0

/-- The logit of expert `e` at token `n`: the product summed over all columns. -/
def logit (e : Fin 64) (n : Fin 16384) : EReal := ∑ d : Fin 4096, experts m c (ix2 e d) * tokens m c (ix2 n d)

theorem term_val (e : Fin 64) (n : Fin 16384) (d : Fin 4096) :
    term m c e n d.val = experts m c (ix2 e d) * tokens m c (ix2 n d) := dif_pos d.isLt

theorem sum_term (e : Fin 64) (n : Fin 16384) : ∑ d ∈ Finset.range 4096, term m c e n d = logit m c e n := by
  rw [Finset.sum_range]
  exact Finset.sum_congr rfl fun d _ => term_val m c e n d

/-- What point `t` adds. -/
theorem block_sum (t : Fin cfg0.N) (e : Fin 64) (j : Fin 1024) :
    ∑ d : Fin 1024, (expertsBlock m c t (ix2 e d) : EReal) * (tokensBlock m c t (ix2 j d) : EReal)
      = ∑ d ∈ Finset.range 1024, term m c e (token t.val (point_lt t) j) (1024 * (t.val % 4) + d) := by
  rw [Finset.sum_range]
  refine Finset.sum_congr rfl fun d _ => ?_
  rw [experts_block, tokens_block]
  exact (term_val m c e _ (feature t.val d)).symm

/-- The logits window after point `t`. -/
def logitsWindow (t : Fin cfg0.N) : FVec Ideal S64x1024 .f32 := (outsAt0 m c t.val t.isLt).2.2

theorem logitsWindow_first (t : Fin cfg0.N) (h0 : t.val % 4 = 0) :
    logitsWindow m c t = k0_pay1 (tokensBlock m c t) (expertsBlock m c t) := by
  unfold logitsWindow
  rw [outsAt0_A m c t h0 (by omega) (by omega)]
  dsimp only
  rw [logits_first]
  rfl

/-- The point before. -/
def before (t : Fin cfg0.N) : Fin cfg0.N := ⟨t.val - 1, Nat.lt_of_le_of_lt (Nat.sub_le _ _) t.isLt⟩

theorem logitsWindow_later (t : Fin cfg0.N) (h0 : ¬t.val % 4 = 0) :
    logitsWindow m c t = k0_pay2 (tokensBlock m c t) (expertsBlock m c t) (logitsWindow m c (before t)) := by
  unfold logitsWindow
  by_cases h3 : t.val % 4 = 3
  · rw [outsAt0_C m c t h0 (by omega) h3]
    dsimp only
    rw [logits_last]
    rfl
  · rw [outsAt0_B m c t h0 (by omega) h3]
    dsimp only
    rw [logits_later]
    rfl

/-- After point `t` the window holds, at expert `e` and token `j` of the block, the sum over the columns met so far. -/
theorem logitsWindow_apply (n : ℕ) (hn : n < cfg0.N) (e : Fin 64) (j : Fin 1024) :
    logitsWindow m c ⟨n, hn⟩ (ix2 e j)
      = ∑ d ∈ Finset.range (1024 * (n % 4) + 1024), term m c e (token n (point_lt ⟨n, hn⟩) j) d := by
  induction n with
  | zero =>
    rw [logitsWindow_first m c ⟨0, hn⟩ rfl, product_apply, block_sum]
    exact Finset.sum_congr rfl fun d _ => congrArg _ (Nat.zero_add d)
  | succ n ih =>
    by_cases h0 : (n + 1) % 4 = 0
    · rw [logitsWindow_first m c ⟨n + 1, hn⟩ h0, product_apply, block_sum]
      show ∑ d ∈ Finset.range 1024, term m c e _ (1024 * ((n + 1) % 4) + d) = _
      rw [h0]
      exact Finset.sum_congr rfl fun d _ => congrArg _ (Nat.zero_add d)
    · rw [logitsWindow_later m c ⟨n + 1, hn⟩ h0, sum_apply, block_sum]
      have hb : before ⟨n + 1, hn⟩ = ⟨n, Nat.lt_of_succ_lt hn⟩ := rfl
      have htok : token n (point_lt ⟨n, Nat.lt_of_succ_lt hn⟩) j = token (n + 1) (point_lt ⟨n + 1, hn⟩) j :=
        Fin.ext (show 1024 * (n / 4) + j.val = 1024 * ((n + 1) / 4) + j.val by omega)
      have hlen : 1024 * (n % 4) + 1024 = 1024 * ((n + 1) % 4) := by omega
      rw [hb, ih (Nat.lt_of_succ_lt hn), htok, hlen, Finset.sum_range_add]

/-- After the last point of a row it holds the logits. -/
theorem logitsWindow_done (t : Fin cfg0.N) (h3 : t.val % 4 = 3) (e : Fin 64) (j : Fin 1024) :
    logitsWindow m c t (ix2 e j) = logit m c e (token t.val (point_lt t) j) := by
  rw [← sum_term]
  refine (logitsWindow_apply m c t.val t.isLt e j).trans ?_
  rw [h3]

/-- So a column of it is a token's logits. -/
theorem column_logits (t : Fin cfg0.N) (h3 : t.val % 4 = 3) (j : Fin 1024) :
    column (logitsWindow m c t) j = fun e => logit m c e (token t.val (point_lt t) j) :=
  funext fun e => logitsWindow_done m c t h3 e j

end Cert.Router

end
-- ==== Proof.Arrays.lean ====
/-
  What the three output arrays hold when the grid is done. Each is written back once per block of 1024 tokens, after the
  block's last point, and the sixteen blocks cover it: so at expert or rank `r` and token `n` it holds the token's logit of
  that expert, the expert of that rank, the weight of that rank.
-/
module

public import proofs.«01_k».proof.Proof.Logits
public import Idealize.ShloMosaic.Lib.Pipeline.Value

@[expose] public section

noncomputable section

namespace Cert.Router

open Idealize.ShloMosaic hiding ix1 ix2 ix3 eq_ix2
open Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The values -/

/-- A token's logits. -/
def logitsOf (n : Fin 16384) : Fin 64 → EReal := fun e => logit m c e n

/-- The logits array. -/
def logitsArray : S64x16384.Idx → EReal := fun i => logitsOf m c (i 1) (i 0)

/-- The positions array. -/
def positionsArray : S8x16384.Idx → BitVec 32 := fun i => BitVec.ofNat 32 (chosen (logitsOf m c (i 1)) (i 0).val).val

/-- The weights array. -/
def weightsArray : S8x16384.Idx → EReal := fun i => softmaxAt (logitsOf m c (i 1)) (i 0)

/-! ## What a block's last point leaves in the windows -/

theorem logitsWindow_last (t : Fin cfg0.N) (h3 : t.val % 4 = 3) :
    logitsWindow m c t = k0_pay2 (tokensBlock m c t) (expertsBlock m c t) (logitsWindow m c (before t)) :=
  logitsWindow_later m c t (by omega)

theorem positions_window (t : Fin cfg0.N) (h3 : t.val % 4 = 3) :
    (outsAt0 m c t.val t.isLt).1 = positions (logitsWindow m c t) := by
  rw [logitsWindow_last m c t h3, outsAt0_C m c t (by omega) (by omega) h3]
  dsimp only
  rw [positions_last]
  rfl

theorem weights_window (t : Fin cfg0.N) (h3 : t.val % 4 = 3) :
    (outsAt0 m c t.val t.isLt).2.1 = weights (logitsWindow m c t) := by
  rw [logitsWindow_last m c t h3, outsAt0_C m c t (by omega) (by omega) h3]
  dsimp only
  rw [weights_last]
  rfl

/-! ## Where a block lies -/

theorem index_positions : ∀ t : Fin cfg0.N, win0_2.index t 0 = 0 ∧ win0_2.index t 1 = t.val / 4 :=
  (by decide +kernel : ∀ t : Fin grid0.N, win0_2.index t 0 = 0 ∧ win0_2.index t 1 = t.val / 4)

theorem index_weights : ∀ t : Fin cfg0.N, win0_3.index t 0 = 0 ∧ win0_3.index t 1 = t.val / 4 :=
  (by decide +kernel : ∀ t : Fin grid0.N, win0_3.index t 0 = 0 ∧ win0_3.index t 1 = t.val / 4)

theorem index_logits : ∀ t : Fin cfg0.N, win0_4.index t 0 = 0 ∧ win0_4.index t 1 = t.val / 4 :=
  (by decide +kernel : ∀ t : Fin grid0.N, win0_4.index t 0 = 0 ∧ win0_4.index t 1 = t.val / 4)

theorem emb_positions (t : Fin cfg0.N) (r : Fin 8) (j : Fin 1024) :
    ((cfg0.win 2).blk t).view.emb (ix2 r j) = ix2 r (token t.val (point_lt t) j) := by
  funext a
  apply Fin.ext
  match a with
  | ⟨0, _⟩ =>
    show win0_2.index t 0 * 8 + 1 * r.val = r.val
    rw [(index_positions t).1]; omega
  | ⟨1, _⟩ =>
    show win0_2.index t 1 * 1024 + 1 * j.val = 1024 * (t.val / 4) + j.val
    rw [(index_positions t).2]; omega

theorem emb_weights (t : Fin cfg0.N) (r : Fin 8) (j : Fin 1024) :
    ((cfg0.win 3).blk t).view.emb (ix2 r j) = ix2 r (token t.val (point_lt t) j) := by
  funext a
  apply Fin.ext
  match a with
  | ⟨0, _⟩ =>
    show win0_3.index t 0 * 8 + 1 * r.val = r.val
    rw [(index_weights t).1]; omega
  | ⟨1, _⟩ =>
    show win0_3.index t 1 * 1024 + 1 * j.val = 1024 * (t.val / 4) + j.val
    rw [(index_weights t).2]; omega

theorem emb_logits (t : Fin cfg0.N) (e : Fin 64) (j : Fin 1024) :
    ((cfg0.win 4).blk t).view.emb (ix2 e j) = ix2 e (token t.val (point_lt t) j) := by
  funext a
  apply Fin.ext
  match a with
  | ⟨0, _⟩ =>
    show win0_4.index t 0 * 64 + 1 * e.val = e.val
    rw [(index_logits t).1]; omega
  | ⟨1, _⟩ =>
    show win0_4.index t 1 * 1024 + 1 * j.val = 1024 * (t.val / 4) + j.val
    rw [(index_logits t).2]; omega

/-- The last point of the block that token `n` lies in. -/
def lastPoint (n : Fin 16384) : Fin cfg0.N := ⟨4 * (n.val / 1024) + 3, by have h : cfg0.N = 64 := N_0; omega⟩

/-- The column of token `n` in its block. -/
def within (n : Fin 16384) : Fin 1024 := ⟨n.val % 1024, by omega⟩

theorem lastPoint_mod (n : Fin 16384) : (lastPoint n).val % 4 = 3 := by
  show (4 * (n.val / 1024) + 3) % 4 = 3
  omega

theorem token_lastPoint (n : Fin 16384) : token (lastPoint n).val (point_lt (lastPoint n)) (within n) = n := by
  refine Fin.ext ?_
  show 1024 * ((4 * (n.val / 1024) + 3) / 4) + n.val % 1024 = n.val
  omega

/-! ## The arrays -/

theorem positions_flushed (t : Fin cfg0.N) (hf : (cfg0.win 2).flush t = true) :
    (dats m 0 c).flushed 2 t = ((cfg0.win 2).blk t).view.read (Elt Ideal) (positionsArray m c) := by
  have h3 := (flush0_2 t).mp hf
  show (cfg0.win 2).cut (grid0.coords t) ((dats m 0 c).after 2 t) = _
  rw [after0_2, positions_window m c t h3]
  funext y
  obtain ⟨r, j, rfl⟩ : ∃ (r : Fin 8) (j : Fin 1024), y = ix2 r j := ⟨y 0, y 1, eq_ix2 y⟩
  rw [View.read_apply, emb_positions]
  refine (positions_apply (logitsWindow m c t) r j).trans ?_
  rw [column_logits m c t h3]
  rfl

theorem positions_array : (dats m 0 c).arrAt 2 cfg0.N = positionsArray m c :=
  (dats m 0 c).arrAt_eq_of_cover 2 (positionsArray m c) (positions_flushed m c) fun (i : S8x16384.Idx) => by
    refine ⟨lastPoint (i 1), (flush0_2 _).mpr (lastPoint_mod _), ?_⟩
    have he : ((cfg0.win 2).blk (lastPoint (i 1))).view.emb (ix2 (i 0) (within (i 1))) = i :=
      (emb_positions _ (i 0) (within (i 1))).trans
        ((congrArg (fun n : Fin 16384 => ix2 (i 0 : Fin 8) n) (token_lastPoint (i 1))).trans (eq_ix2 i).symm)
    have h := ((cfg0.win 2).blk (lastPoint (i 1))).view.emb_mem_set (ix2 (i 0) (within (i 1)))
    rwa [he] at h

theorem logits_flushed (t : Fin cfg0.N) (hf : (cfg0.win 4).flush t = true) :
    (dats m 0 c).flushed 4 t = ((cfg0.win 4).blk t).view.read (Elt Ideal) (logitsArray m c) := by
  have h3 := (flush0_4 t).mp hf
  show (cfg0.win 4).cut (grid0.coords t) ((dats m 0 c).after 4 t) = _
  rw [after0_4]
  funext y
  obtain ⟨e, j, rfl⟩ : ∃ (e : Fin 64) (j : Fin 1024), y = ix2 e j := ⟨y 0, y 1, eq_ix2 y⟩
  rw [View.read_apply, emb_logits]
  exact logitsWindow_done m c t h3 e j

theorem logits_array : (dats m 0 c).arrAt 4 cfg0.N = logitsArray m c :=
  (dats m 0 c).arrAt_eq_of_cover 4 (logitsArray m c) (logits_flushed m c) fun (i : S64x16384.Idx) => by
    refine ⟨lastPoint (i 1), (flush0_4 _).mpr (lastPoint_mod _), ?_⟩
    have he : ((cfg0.win 4).blk (lastPoint (i 1))).view.emb (ix2 (i 0) (within (i 1))) = i :=
      (emb_logits _ (i 0) (within (i 1))).trans
        ((congrArg (fun n : Fin 16384 => ix2 (i 0 : Fin 64) n) (token_lastPoint (i 1))).trans (eq_ix2 i).symm)
    have h := ((cfg0.win 4).blk (lastPoint (i 1))).view.emb_mem_set (ix2 (i 0) (within (i 1)))
    rwa [he] at h

variable (hx : ∀ n e, logitsOf m c n e ≠ ⊥)

include hx

theorem weights_flushed (t : Fin cfg0.N) (hf : (cfg0.win 3).flush t = true) :
    (dats m 0 c).flushed 3 t = ((cfg0.win 3).blk t).view.read (Elt Ideal) (weightsArray m c) := by
  have h3 := (flush0_3 t).mp hf
  show (cfg0.win 3).cut (grid0.coords t) ((dats m 0 c).after 3 t) = _
  rw [after0_3, weights_window m c t h3]
  funext y
  obtain ⟨r, j, rfl⟩ : ∃ (r : Fin 8) (j : Fin 1024), y = ix2 r j := ⟨y 0, y 1, eq_ix2 y⟩
  rw [View.read_apply, emb_weights]
  have hcol := column_logits m c t h3 j
  refine (weights_apply (logitsWindow m c t) j (fun e => ?_) r).trans ?_
  · rw [hcol]
    exact hx _ e
  · rw [hcol]
    rfl

theorem weights_array : (dats m 0 c).arrAt 3 cfg0.N = weightsArray m c :=
  (dats m 0 c).arrAt_eq_of_cover 3 (weightsArray m c) (weights_flushed m c hx) fun (i : S8x16384.Idx) => by
    refine ⟨lastPoint (i 1), (flush0_3 _).mpr (lastPoint_mod _), ?_⟩
    have he : ((cfg0.win 3).blk (lastPoint (i 1))).view.emb (ix2 (i 0) (within (i 1))) = i :=
      (emb_weights _ (i 0) (within (i 1))).trans
        ((congrArg (fun n : Fin 16384 => ix2 (i 0 : Fin 8) n) (token_lastPoint (i 1))).trans (eq_ix2 i).symm)
    have h := ((cfg0.win 3).blk (lastPoint (i 1))).view.emb_mem_set (ix2 (i 0) (within (i 1)))
    rwa [he] at h

end Cert.Router

end
-- ==== Proof.Router.lean ====
/-
  The router, as functions of the tokens and of the weights: a token's logit of an expert is their product summed over the
  features; the experts of a token are the eight of greatest logit, greatest first, of equal ones the earliest; their weights
  are the softmax of the eight logits.
-/
module

public import proofs.«01_k».proof.Proof.Rows

@[expose] public section

noncomputable section

namespace Cert.Router

open Idealize.ShloMosaic hiding ix1 ix2 ix3 eq_ix2 eq_ix3
open Idealize.ShloMosaic.ValueIdx

/-- The index set of the tokens: batch, position, feature. -/
abbrev TokensIdx := (⟨3, ![4, 4096, 4096]⟩ : Shape).Idx

/-- The index set of the weights: expert, feature. -/
abbrev ExpertsIdx := (⟨2, ![64, 4096]⟩ : Shape).Idx

/-- The index set of the logits: batch, position, expert. -/
abbrev LogitsIdx := (⟨3, ![4, 4096, 64]⟩ : Shape).Idx

/-- The index set of the chosen experts: batch, position, rank. -/
abbrev RanksIdx := (⟨3, ![4, 4096, 8]⟩ : Shape).Idx

variable (x : TokensIdx → EReal) (w : ExpertsIdx → EReal)

/-- A token's logit of every expert. -/
def routerLogit (b : Fin 4) (s : Fin 4096) : Fin 64 → EReal := fun e => ∑ d : Fin 4096, x (ix3 b s d) * w (ix2 e d)

/-- The logits. -/
def routerLogits : LogitsIdx → EReal := fun i => routerLogit x w (i 0) (i 1) (i 2)

/-- The expert of each rank. -/
def routerExperts : RanksIdx → BitVec 32 := fun i => BitVec.ofNat 32 (chosen (routerLogit x w (i 0) (i 1)) (i 2).val).val

/-- The weight of each rank. -/
def routerWeights : RanksIdx → EReal := fun i => softmaxAt (routerLogit x w (i 0) (i 1)) (i 2)

end Cert.Router

end
-- ==== Proof.Host.lean ====
/-
  The host program around the grid. Before it the tokens of the four batches are laid in one array of 16384 rows, token `s`
  of batch `b` at row `4096b + s`. After it each output array is transposed and cut into the four batches again. So the
  three results at batch `b` and token `s` are the output arrays at column `4096b + s`.
-/
module

public import proofs.«01_k».proof.Proof.Arrays
public import proofs.«01_k».proof.Proof.Router

@[expose] public section

noncomputable section

namespace Cert.Router

open Idealize.ShloMosaic hiding ix1 ix2 ix3 eq_ix2 eq_ix3
open Idealize.ShloMosaic.TcCoe Idealize.ShloMosaic.ValueIdx Idealize.SL.Sem
open Cert.KernelIdeal Cert.KernelIdeal.Gen

/-! ## The row of a token -/

/-- The row of token `s` of batch `b`. -/
def row (b : Fin 4) (s : Fin 4096) : Fin 16384 := ⟨b.val * 4096 + s.val, by omega⟩

theorem flatten_apply {α : Type} (x : S4x4096x4096.Idx → α) (b : Fin 4) (s d : Fin 4096) :
    shapeCast S16384x4096 x shapeCasts_S4x4096x4096_S16384x4096 (ix2 (row b s) d) = x (ix3 b s d) :=
  shapeCast_apply x _ _ _ (by
    rw [Shape.rowMajor_val_two, Shape.rowMajor_val_three]
    rfl)

theorem batches8_apply {α : Type} (x : S8x16384.Idx → α) (b : Fin 4) (s : Fin 4096) (r : Fin 8) :
    shapeCast S4x4096x8 (transpose S16384x8 [1, 0] x transposes_S8x16384_S16384x8_1_0) shapeCasts_S16384x8_S4x4096x8
      (ix3 b s r) = x (ix2 r (row b s)) :=
  (shapeCast_apply _ _ _ (ix2 (row b s) r) (by
    rw [Shape.rowMajor_val_two, Shape.rowMajor_val_three]
    rfl)).trans (transpose_ix2_apply _ _ _ _)

theorem batches64_apply {α : Type} (x : S64x16384.Idx → α) (b : Fin 4) (s : Fin 4096) (e : Fin 64) :
    shapeCast S4x4096x64 (transpose S16384x64 [1, 0] x transposes_S64x16384_S16384x64_1_0) shapeCasts_S16384x64_S4x4096x64
      (ix3 b s e) = x (ix2 e (row b s)) :=
  (shapeCast_apply _ _ _ (ix2 (row b s) e) (by
    rw [Shape.rowMajor_val_two, Shape.rowMajor_val_three]
    rfl)).trans (transpose_ix2_apply _ _ _ _)

/-! ## Before the grid -/

variable (m : (ℓ : Loc nD τ sig) → Buf (Elt Ideal) ℓ) (c : Dev nD)

/-- The tokens as given. -/
def givenTokens : S4x4096x4096.Idx → EReal := m ((c : Thread nD τ).loc main_arg0)

/-- The weights as given. -/
def givenExperts : S64x4096.Idx → EReal := m ((c : Thread nD τ).loc main_arg1)

theorem tokens_flat : tokens m c = shapeCast S16384x4096 (givenTokens m c) shapeCasts_S4x4096x4096_S16384x4096 := by
  show StableHlo.after [hostOps0].flatten (fun b => m (c, b)) (Proc.devRef .tc main_call0_v0) = _
  simp only [List.flatten_cons, List.flatten_nil, List.append_nil]
  after_results
  rfl

theorem experts_eq : experts m c = givenExperts m c := V_main_arg1 m c

theorem logitsOf_row (b : Fin 4) (s : Fin 4096) : logitsOf m c (row b s) = routerLogit (givenTokens m c) (givenExperts m c) b s := by
  funext e
  unfold logitsOf logit routerLogit
  rw [experts_eq, tokens_flat]
  refine Finset.sum_congr rfl fun d _ => ?_
  rw [flatten_apply, mul_comm]

/-! ## After the grid -/

/-- What the host lines after the grid leave in a buffer. -/
def left (b : Ref sig .tc) : Buf (Elt Ideal) ((c : Thread nD τ).loc b) :=
  Pipeline.afterTail₀ cfgs (dats m) 0 (V0 m) [hostOps1] c b

/-- An output array when the grid is done, read through the buffers the host lines start from. -/
theorem array_read (w : Fin 5) :
    Pipeline.withArrays spec0 c (V0 m c) (fun w => (dats m 0 c).arrAt w cfg0.N) (Proc.devRef .tc (Pipeline.arrRef spec0 w))
      = (dats m 0 c).arrAt w cfg0.N :=
  Pipeline.withArrays_arr spec0 (by decide) c (V0 m c) _ w

theorem left_positions : left m c main_v0_0
    = shapeCast S4x4096x8 (transpose S16384x8 [1, 0] ((dats m 0 c).arrAt 2 cfg0.N) transposes_S8x16384_S16384x8_1_0)
        shapeCasts_S16384x8_S4x4096x8 := by
  rw [← array_read m c 2]
  show StableHlo.after [hostOps1].flatten _ (Proc.devRef .tc main_v0_0) = _
  simp only [List.flatten_cons, List.flatten_nil, List.append_nil]
  after_results
  rfl

theorem left_weights : left m c main_v0_1
    = shapeCast S4x4096x8 (transpose S16384x8 [1, 0] ((dats m 0 c).arrAt 3 cfg0.N) transposes_S8x16384_S16384x8_1_0)
        shapeCasts_S16384x8_S4x4096x8 := by
  rw [← array_read m c 3]
  show StableHlo.after [hostOps1].flatten _ (Proc.devRef .tc main_v0_1) = _
  simp only [List.flatten_cons, List.flatten_nil, List.append_nil]
  after_results
  rfl

theorem left_logits : left m c main_v0_2
    = shapeCast S4x4096x64 (transpose S16384x64 [1, 0] ((dats m 0 c).arrAt 4 cfg0.N) transposes_S64x16384_S16384x64_1_0)
        shapeCasts_S16384x64_S4x4096x64 := by
  rw [← array_read m c 4]
  show StableHlo.after [hostOps1].flatten _ (Proc.devRef .tc main_v0_2) = _
  simp only [List.flatten_cons, List.flatten_nil, List.append_nil]
  after_results
  rfl

/-! ## The results -/

theorem positions_result : left m c main_v0_0 = routerExperts (givenTokens m c) (givenExperts m c) := by
  rw [left_positions, positions_array]
  funext (i : S4x4096x8.Idx)
  obtain ⟨b, s, r, rfl⟩ : ∃ b s r, i = ix3 b s r := ⟨_, _, _, eq_ix3 i⟩
  refine (batches8_apply _ b s r).trans ?_
  show BitVec.ofNat 32 (chosen (logitsOf m c (row b s)) r.val).val = _
  rw [logitsOf_row]
  rfl

theorem logits_result : left m c main_v0_2 = routerLogits (givenTokens m c) (givenExperts m c) := by
  rw [left_logits, logits_array]
  funext (i : S4x4096x64.Idx)
  obtain ⟨b, s, e, rfl⟩ : ∃ b s e, i = ix3 b s e := ⟨_, _, _, eq_ix3 i⟩
  refine (batches64_apply _ b s e).trans ?_
  show logitsOf m c (row b s) e = _
  rw [logitsOf_row]
  rfl

/-- Every row is some token's. -/
theorem row_surjective (n : Fin 16384) : ∃ b s, row b s = n :=
  ⟨⟨n.val / 4096, by omega⟩, ⟨n.val % 4096, by omega⟩, Fin.ext (by show n.val / 4096 * 4096 + n.val % 4096 = n.val; omega)⟩

theorem weights_result (hx : ∀ b s e, routerLogit (givenTokens m c) (givenExperts m c) b s e ≠ ⊥) : left m c main_v0_1 = routerWeights (givenTokens m c) (givenExperts m c) := by
  rw [left_weights, weights_array m c fun n e => by
    obtain ⟨b, s, rfl⟩ := row_surjective n
    rw [logitsOf_row]
    exact hx b s e]
  funext (i : S4x4096x8.Idx)
  obtain ⟨b, s, r, rfl⟩ : ∃ b s r, i = ix3 b s r := ⟨_, _, _, eq_ix3 i⟩
  refine (batches8_apply _ b s r).trans ?_
  show softmaxAt (logitsOf m c (row b s)) r = _
  rw [logitsOf_row]
  rfl

/-- The run of the kernel's program: each result at its function of the arguments, the arguments unchanged. -/
theorem kernel_run (ρ : Dev nD → PrngReg) (hx : ∀ c b s e, routerLogit (givenTokens m c) (givenExperts m c) b s e ≠ ⊥) :
    θ_run defs (onTc (τ := τ) (main (F := Ideal))) ⟨m, fun _ => 0, ρ⟩ fun r => ∀ c : Dev nD,
      r.2.mem ((c : Thread nD τ).loc main_v0_0) = routerExperts (givenTokens m c) (givenExperts m c)
      ∧ r.2.mem ((c : Thread nD τ).loc main_v0_1) = routerWeights (givenTokens m c) (givenExperts m c)
      ∧ r.2.mem ((c : Thread nD τ).loc main_v0_2) = routerLogits (givenTokens m c) (givenExperts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0_0 (Pipeline.mem_restRefs_of main_v0_0 (by decide) (by decide))).trans (positions_result m c),
     ((h c).2 main_v0_1 (Pipeline.mem_restRefs_of main_v0_1 (by decide) (by decide))).trans (weights_result m c (hx c)),
     ((h c).2 main_v0_2 (Pipeline.mem_restRefs_of main_v0_2 (by decide) (by decide))).trans (logits_result m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩) (run_main m ρ)

end Cert.Router

end
-- ==== Proof.Reference.lean ====
/-
  What the reference computes, operation by operation at an index. Its contraction is the sum over the features; its stable
  sort by "greater first" puts at rank `r` the expert chosen in round `r`; the maximum of the eight descending values, which
  its softmax subtracts, is the first of them.
-/
module

public import proofs.«01_k».proof.Proof.Router
public import proofs.«01_k».proof.Proof.Gen.ReferenceIdeal.Run

@[expose] public section

noncomputable section

namespace Cert.Router

open Idealize.ShloMosaic hiding ix1 ix2 ix3 eq_ix2 eq_ix3
open Idealize.ShloMosaic.TcCoe Idealize.ShloMosaic.ValueIdx Idealize.SL.Sem
open Cert.ReferenceIdeal Cert.ReferenceIdeal.Gen

/-! ## The contraction -/

abbrev einsum := dot_S4x4096x4096_S64x4096_S4x4096x64_2_1_01_0_n_n

theorem einsum_apply (x : FVec Ideal S4x4096x4096 .f32) (w : FVec Ideal S64x4096 .f32) (b : Fin 4) (s : Fin 4096) (e : Fin 64) :
    Host.dotGeneral (F := Ideal) einsum none x w (ix3 b s e) = routerLogit x w b s e := by
  show FloatOps.dotGeneral einsum none _ x w (ix3 b s e) = _
  rw [Ideal.dotGeneral_apply, ← Equiv.sum_comp (contrEquiv1 einsum 4096 rfl rfl).symm]
  refine Finset.sum_congr rfl fun (d : Fin 4096) _ => ?_
  have hd := contrEquiv1_symm_val einsum 4096 rfl rfl d
  have hl : einsum.lhsIdx (ix3 b s e) ((contrEquiv1 einsum 4096 rfl rfl).symm d) = ix3 b s d := by
    funext a; apply Fin.ext
    match a with
    | ⟨0, _⟩ => simp [DotDims.lhsIdx]; rfl
    | ⟨1, _⟩ => simp [DotDims.lhsIdx]; rfl
    | ⟨2, _⟩ => simp [DotDims.lhsIdx]; exact hd
  have hr : einsum.rhsIdx (ix3 b s e) ((contrEquiv1 einsum 4096 rfl rfl).symm d) = ix2 e d := by
    funext a; apply Fin.ext
    match a with
    | ⟨0, _⟩ => simp [DotDims.rhsIdx]; rfl
    | ⟨1, _⟩ => simp [DotDims.rhsIdx]; exact hd
  rw [hl, hr]

theorem einsum_eq (x : FVec Ideal S4x4096x4096 .f32) (w : FVec Ideal S64x4096 .f32) :
    Host.dotGeneral (F := Ideal) einsum none x w = routerLogits x w := by
  funext (i : S4x4096x64.Idx)
  obtain ⟨b, s, e, rfl⟩ : ∃ b s e, i = ix3 b s e := ⟨_, _, _, eq_ix3 i⟩
  exact einsum_apply x w b s e

/-! ## A selection of the greatest, at an index -/

section Selection
variable {s t : Shape} {α : Type} (d : ℕ) (hd : d < s.rank) (gt : α → α → BitVec 1) (x : s.Idx → α) (h : s.Slices (fun _ => 0) t)

/-- The operand's index a result index is cut from. -/
def cutIndex (j : t.Idx) : s.Idx := fun a =>
  ⟨0 + (j (a.cast h.1.symm)).val, Nat.lt_of_lt_of_le (Nat.add_lt_add_left (j _).isLt _) (h.2 a)⟩

/-- The position the stable sort, greater first, puts at index `i`. -/
def sortedPosition (i : s.Idx) : Fin (s.size ⟨d, hd⟩) :=
  sortedFrom (fun k k' => gt (x (i.along ⟨d, hd⟩ k)) (x (i.along ⟨d, hd⟩ k')) == 1#1) (i ⟨d, hd⟩)

theorem topK_values (j : t.Idx) :
    (Host.topK t d gt x h).1 j = x ((cutIndex h j).along ⟨d, hd⟩ (sortedPosition d hd gt x (cutIndex h j))) := by
  unfold Host.topK Host.sort2
  simp only [dif_pos hd]
  rfl

theorem topK_positions (j : t.Idx) :
    (Host.topK t d gt x h).2 j
      = iotaInDim s 32 ⟨d, hd⟩ ((cutIndex h j).along ⟨d, hd⟩ (sortedPosition d hd gt x (cutIndex h j))) := by
  unfold Host.topK Host.sort2
  simp only [dif_pos hd]
  rfl

end Selection

/-! ## The eight greatest logits -/

/-- "Greater", as the reference's selection compares. -/
def greater : EReal → EReal → BitVec 1 := FloatOps.cmpfTotal (F := Ideal) (φ := .f32) .gt

theorem greater_eq (a b : EReal) : (greater a b == 1#1) = decide (b < a) := by
  show (BitVec.ofBool (decide (b < a)) == 1#1) = _
  by_cases h : b < a <;> simp [h]

/-- The reference's selection of eight. -/
def topEight (l : FVec Ideal S4x4096x64 .f32) : FVec Ideal S4x4096x8 .f32 × IVec S4x4096x8 32 :=
  Host.topK S4x4096x8 2 greater l sliceFits_S4x4096x64_S4x4096x8

/-- The index of the logits a rank's index is cut from. -/
def rankIndex (b : Fin 4) (s : Fin 4096) (r : Fin 8) : S4x4096x64.Idx := ix3 b s (r.castLE (by omega))

theorem rankIndex_two (b : Fin 4) (s : Fin 4096) (r : Fin 8) : rankIndex b s r 2 = (r.castLE (by omega) : Fin 64) := rfl

theorem iota_expert (b : Fin 4) (s : Fin 4096) (e : Fin 64) : iotaInDim S4x4096x64 32 2 (ix3 b s e) = BitVec.ofNat 32 e.val := rfl

theorem along_expert (b : Fin 4) (s : Fin 4096) (r : Fin 8) (k : Fin 64) : (rankIndex b s r).along 2 k = ix3 b s k := by
  funext a
  match a with
  | ⟨0, _⟩ => rfl
  | ⟨1, _⟩ => rfl
  | ⟨2, _⟩ => rfl

theorem rank_index (b : Fin 4) (s : Fin 4096) (r : Fin 8) :
    cutIndex sliceFits_S4x4096x64_S4x4096x8 (ix3 b s r) = rankIndex b s r := by
  funext a; apply Fin.ext
  match a with
  | ⟨0, _⟩ => exact Nat.zero_add _
  | ⟨1, _⟩ => exact Nat.zero_add _
  | ⟨2, _⟩ => exact Nat.zero_add _

theorem two_lt : 2 < S4x4096x64.rank := by decide

/-- The position the reference's sort puts at rank `r`. -/
def sortedAt (l : FVec Ideal S4x4096x64 .f32) (b : Fin 4) (s : Fin 4096) (r : Fin 8) : Fin 64 :=
  sortedPosition 2 two_lt greater l (rankIndex b s r)

theorem sortedAt_eq (l : FVec Ideal S4x4096x64 .f32) (b : Fin 4) (s : Fin 4096) (hl : ∀ e, l (ix3 b s e) ≠ (⊥ : EReal)) (r : Fin 8) :
    sortedAt l b s r = chosen (fun e : Fin 64 => (l (ix3 b s e) : EReal)) r.val := by
  have h : (fun k k' : Fin 64 => greater (l ((rankIndex b s r).along 2 k)) (l ((rankIndex b s r).along 2 k')) == 1#1)
      = fun k k' : Fin 64 => decide ((l (ix3 b s k') : EReal) < l (ix3 b s k)) := by
    funext k k'
    rw [along_expert, along_expert, greater_eq]
  unfold sortedAt sortedPosition
  refine Eq.trans ?_ (sortedFrom_eq_chosen hl (by omega) r)
  exact congrArg₂ (fun (f : Fin 64 → Fin 64 → Bool) (k : Fin 64) => sortedFrom f k) h (rankIndex_two b s r)

theorem topEight_values (l : FVec Ideal S4x4096x64 .f32) (b : Fin 4) (s : Fin 4096) (r : Fin 8) :
    (topEight l).1 (ix3 b s r) = l (ix3 b s (sortedAt l b s r)) := by
  refine (topK_values 2 two_lt greater l sliceFits_S4x4096x64_S4x4096x8 (ix3 b s r)).trans ?_
  rw [rank_index]
  exact congrArg l (along_expert b s r _)

theorem topEight_positions (l : FVec Ideal S4x4096x64 .f32) (b : Fin 4) (s : Fin 4096) (r : Fin 8) :
    (topEight l).2 (ix3 b s r) = BitVec.ofNat 32 (sortedAt l b s r).val := by
  refine (topK_positions 2 two_lt greater l sliceFits_S4x4096x64_S4x4096x8 (ix3 b s r)).trans ?_
  rw [rank_index]
  exact (congrArg (iotaInDim S4x4096x64 32 2) (along_expert b s r _)).trans (iota_expert b s _)

/-! ## The softmax -/

theorem reduces : S4x4096x8.Reduces [2] S4x4096 := by decide

theorem lift_rank (b : Fin 4) (s : Fin 4096) (r : Fin 8) : reduces.lift (ix2 b s) r = ix3 b s r := by
  funext a; apply Fin.ext
  match a with
  | ⟨0, _⟩ => rfl
  | ⟨1, _⟩ => rfl
  | ⟨2, _⟩ => rfl

/-- One value per token spread over the eight ranks. -/
def spread (y : FVec Ideal S4x4096 .f32) : FVec Ideal S4x4096x8 .f32 :=
  broadcastInDim S4x4096x8 ![0, 1, 2] bcast_S4x4096x1_S4x4096x8_0_1_2 (broadcastInDim S4x4096x1 ![0, 1] bcast_S4x4096_S4x4096x1_0_1 y)

theorem spread_apply (y : FVec Ideal S4x4096 .f32) (b : Fin 4) (s : Fin 4096) (r : Fin 8) : spread y (ix3 b s r) = y (ix2 b s) := by
  unfold spread broadcastInDim
  refine congrArg y ?_
  funext a; apply Fin.ext
  match a with
  | ⟨0, _⟩ => rfl
  | ⟨1, _⟩ => rfl

/-- The maximum over the ranks, as the reference's softmax takes it. -/
def rankMax (v : FVec Ideal S4x4096x8 .f32) : FVec Ideal S4x4096 .f32 :=
  maximumf (F := Ideal) (φ := .f32) (broadcastInDim S4x4096 ![] bcast_S_S4x4096 (constant (F := Ideal) S_ .f32 0xFF800000#32))
    (Host.reduce (FloatOps.maximumf (F := Ideal) (φ := .f32)) v (constant (F := Ideal) S_ .f32 0xFF800000#32) reducesTo_S4x4096x8_S4x4096_d2 h_S_)

theorem rankMax_apply (v : FVec Ideal S4x4096x8 .f32) (b : Fin 4) (s : Fin 4096)
    (h : ∀ r : Fin 8, (v (ix3 b s r) : EReal) ≤ v (ix3 b s 0)) : rankMax v (ix2 b s) = v (ix3 b s 0) := by
  have e : Host.reduce (FloatOps.maximumf (F := Ideal) (φ := .f32)) v (constant (F := Ideal) S_ .f32 0xFF800000#32) reducesTo_S4x4096x8_S4x4096_d2 h_S_ (ix2 b s)
      = v (ix3 b s 0) := by
    refine (Host.reduce_eq_fold_single (max : EReal → EReal → EReal) v _ reducesTo_S4x4096x8_S4x4096_d2 reduces h_S_ (ix2 b s)).trans ?_
    have hv : (v ∘ reduces.lift (ix2 b s)) = fun r : Fin 8 => (v (ix3 b s r) : EReal) :=
      funext fun r : Fin 8 => congrArg v (lift_rank b s r)
    refine (congrArg₂ (fun (z : EReal) (f : Fin 8 → EReal) => (Finset.univ : Finset (Fin 8)).fold max z f) ofBits_negInf hv).trans ?_
    exact le_antisymm ((Finset.fold_max_le _).mpr ⟨bot_le, fun r _ => h r⟩)
      ((Finset.le_fold_max _).mpr (Or.inr ⟨0, Finset.mem_univ _, le_rfl⟩))
  exact (congrArg₂ (max : EReal → EReal → EReal) ofBits_negInf e).trans (max_eq_right bot_le)

/-- The sum over the ranks. -/
def rankSum (v : FVec Ideal S4x4096x8 .f32) : FVec Ideal S4x4096 .f32 :=
  Host.reduceAdd (F := Ideal) (φ := .f32) v (constant (F := Ideal) S_ .f32 0x00000000#32) reducesTo_S4x4096x8_S4x4096_d2 h_S_

theorem rankSum_apply (v : FVec Ideal S4x4096x8 .f32) (b : Fin 4) (s : Fin 4096) :
    rankSum v (ix2 b s) = ∑ r : Fin 8, (v (ix3 b s r) : EReal) := by
  show Ideal.hostReduceAdd reducesTo_S4x4096x8_S4x4096_d2 v (Ideal.ofBits .f32 0x00000000#32) (ix2 b s) = _
  rw [Ideal.hostReduceAdd_single _ reduces, Ideal.ofBits_zero_f32, zero_add]
  exact Finset.sum_congr rfl fun (r : Fin 8) _ => congrArg v (lift_rank b s r)

/-- The exponentials of the softmax. -/
def shifted (v : FVec Ideal S4x4096x8 .f32) : FVec Ideal S4x4096x8 .f32 := Host.exp (F := Ideal) (φ := .f32) (subf v (spread (rankMax v)))

/-- The reference's softmax over the ranks. -/
def softmax (v : FVec Ideal S4x4096x8 .f32) : FVec Ideal S4x4096x8 .f32 := Host.divf (F := Ideal) (φ := .f32) (shifted v) (spread (rankSum (shifted v)))

theorem shifted_apply (v : FVec Ideal S4x4096x8 .f32) (b : Fin 4) (s : Fin 4096)
    (h : ∀ r : Fin 8, (v (ix3 b s r) : EReal) ≤ v (ix3 b s 0)) (r : Fin 8) :
    shifted v (ix3 b s r) = Ideal.exp ((v (ix3 b s r) : EReal) - v (ix3 b s 0)) := by
  show Ideal.exp ((v (ix3 b s r) : EReal) - spread (rankMax v) (ix3 b s r)) = _
  rw [spread_apply, rankMax_apply v b s h]

theorem softmax_apply (v : FVec Ideal S4x4096x8 .f32) (b : Fin 4) (s : Fin 4096)
    (h : ∀ r : Fin 8, (v (ix3 b s r) : EReal) ≤ v (ix3 b s 0)) (r : Fin 8) :
    softmax v (ix3 b s r) = Ideal.div (Ideal.exp ((v (ix3 b s r) : EReal) - v (ix3 b s 0)))
      (∑ r' : Fin 8, Ideal.exp ((v (ix3 b s r') : EReal) - v (ix3 b s 0))) := by
  show Ideal.div (shifted v (ix3 b s r)) (spread (rankSum (shifted v)) (ix3 b s r)) = _
  rw [spread_apply, rankSum_apply, shifted_apply v b s h]
  exact congrArg _ (Finset.sum_congr rfl fun r' _ => shifted_apply v b s h r')

/-! ## The results -/

variable (x : FVec Ideal S4x4096x4096 .f32) (w : FVec Ideal S64x4096 .f32)

theorem sorted_logits (hx : ∀ b s e, routerLogit x w b s e ≠ ⊥) (b : Fin 4) (s : Fin 4096) (r : Fin 8) :
    sortedAt (routerLogits x w) b s r = chosen (routerLogit x w b s) r.val :=
  sortedAt_eq (routerLogits x w) b s (fun e => hx b s e) r

theorem experts_reference (hx : ∀ b s e, routerLogit x w b s e ≠ ⊥) :
    (topEight (routerLogits x w)).2 = routerExperts x w := by
  funext (i : S4x4096x8.Idx)
  obtain ⟨b, s, r, rfl⟩ : ∃ b s r, i = ix3 b s r := ⟨_, _, _, eq_ix3 i⟩
  rw [topEight_positions, sorted_logits x w hx]
  rfl

theorem values_reference (hx : ∀ b s e, routerLogit x w b s e ≠ ⊥) (b : Fin 4) (s : Fin 4096) (r : Fin 8) :
    (topEight (routerLogits x w)).1 (ix3 b s r) = routerLogit x w b s (chosen (routerLogit x w b s) r.val) := by
  rw [topEight_values, sorted_logits x w hx]
  rfl

theorem weights_reference (hx : ∀ b s e, routerLogit x w b s e ≠ ⊥) :
    softmax (topEight (routerLogits x w)).1 = routerWeights x w := by
  funext (i : S4x4096x8.Idx)
  obtain ⟨b, s, r, rfl⟩ : ∃ b s r, i = ix3 b s r := ⟨_, _, _, eq_ix3 i⟩
  have hv := values_reference x w hx b s
  rw [softmax_apply _ b s fun r => by
    rw [hv, hv]
    exact chosen_antitone (hx b s) (by omega) (Nat.zero_le _)]
  simp only [hv]
  rfl

/-- The run of the reference's program: each result at its function of the arguments, the arguments unchanged. -/
theorem reference_run (m : (ℓ : Loc nD τ sig) → Buf (Elt Ideal) ℓ) (ρ : Dev nD → PrngReg)
    (hx : ∀ (c : Dev nD) b s e, routerLogit (m ((c : Thread nD τ).loc main_arg0)) (m ((c : Thread nD τ).loc main_arg1)) b s e ≠ ⊥) :
    θ_run defs (onTc (τ := τ) (main (F := Ideal))) ⟨m, fun _ => 0, ρ⟩ fun r => ∀ c : Dev nD,
      r.2.mem ((c : Thread nD τ).loc main_indices)
        = routerExperts (m ((c : Thread nD τ).loc main_arg0)) (m ((c : Thread nD τ).loc main_arg1))
      ∧ r.2.mem ((c : Thread nD τ).loc main_v11)
        = routerWeights (m ((c : Thread nD τ).loc main_arg0)) (m ((c : Thread nD τ).loc main_arg1))
      ∧ r.2.mem ((c : Thread nD τ).loc main_v0)
        = routerLogits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h0, h1, h2, h3⟩ := h c
    refine ⟨h0.trans ?_, h1.trans ?_, h2.trans (einsum_eq _ _), h3⟩
    · exact (congrArg (fun l => (topEight l).2) (einsum_eq _ _)).trans (experts_reference _ _ (hx c))
    · exact (congrArg (fun l => softmax (topEight l).1) (einsum_eq _ _)).trans (weights_reference _ _ (hx c)))
    (Cert.ReferenceIdeal.Value.run m ρ)

end Cert.Router

end
-- ==== Proof.Finite.lean ====
/-
  The precondition read back: every element of the tokens and of the weights is a real number, so every logit, a finite sum of
  products of them, is one too; in particular none is −∞.
-/
module

public import proofs.«01_k».proof.Pre_finite
public import proofs.«01_k».proof.Proof.Router
public import Idealize.ShloMosaic.Lib.ReduceAll

@[expose] public section

noncomputable section

namespace Cert.Router

open Idealize.ShloMosaic hiding ix1 ix2 ix3 eq_ix2 eq_ix3
open Idealize.ShloMosaic.ValueIdx
open Cert.Pre_finite

/-- The shape relations the precondition's operations take. -/
theorem finite_facts : Cert.Pre_finite.Facts where
  bcast_S_S4x4096x4096 := by decide
  reducesTo_S4x4096x4096_S_d0_1_2 := by decide
  h_S_ := by decide
  bcast_S_S64x4096 := by decide
  reducesTo_S64x4096_S_d0_1 := by decide

/-- An extended real is a real number. -/
def IsReal (a : EReal) : Prop := a ≠ ⊥ ∧ a ≠ ⊤

theorem IsReal.coe (a : ℝ) : IsReal a := ⟨EReal.coe_ne_bot a, EReal.coe_ne_top a⟩

theorem IsReal.exists {a : EReal} (h : IsReal a) : ∃ r : ℝ, a = r := ⟨a.toReal, (EReal.coe_toReal h.2 h.1).symm⟩

theorem isReal_of_abs_lt {a : EReal} (h : max a (-a) < ⊤) : IsReal a := by
  constructor
  · rintro rfl; simp at h
  · rintro rfl; simp at h

theorem IsReal.mul {a b : EReal} (ha : IsReal a) (hb : IsReal b) : IsReal (a * b) := by
  obtain ⟨r, rfl⟩ := ha.exists
  obtain ⟨s, rfl⟩ := hb.exists
  rw [← EReal.coe_mul]
  exact IsReal.coe _

theorem IsReal.add {a b : EReal} (ha : IsReal a) (hb : IsReal b) : IsReal (a + b) := by
  obtain ⟨r, rfl⟩ := ha.exists
  obtain ⟨s, rfl⟩ := hb.exists
  rw [← EReal.coe_add]
  exact IsReal.coe _

theorem IsReal.sum {ι : Type} (s : Finset ι) {f : ι → EReal} (h : ∀ i, IsReal (f i)) : IsReal (∑ i ∈ s, f i) :=
  Finset.sum_induction f IsReal (fun _ _ => IsReal.add) (IsReal.coe 0) fun i _ => h i

theorem ofBits_posInf : Ideal.ofBits .f32 0x7F800000#32 = (⊤ : EReal) := by
  simp [Ideal.ofBits, Ideal.ieee]

instance : Subsingleton S_.Idx := ⟨fun _ _ => funext fun a => a.elim0⟩

/-- An element below +∞ in absolute value, as the precondition compares it, is a real number. -/
theorem isReal_of_compare {a : EReal} (h : FloatOps.cmpf (F := Ideal) (φ := .f32) .olt (max a (-a)) (Ideal.ofBits .f32 0x7F800000#32) = 1#1) :
    IsReal a := by
  rw [ofBits_posInf] at h
  refine isReal_of_abs_lt ?_
  by_contra hn
  have h' : BitVec.ofBool (decide (max a (-a) < ⊤)) = 1#1 := h
  rw [decide_eq_false hn] at h'
  exact absurd h' (by decide)

theorem finite_entries [Cert.Pre_finite.Facts] {x : TokensIdx → EReal} {w : ExpertsIdx → EReal}
    (h : ∀ j, Cert.Pre_finite.fn (F := Ideal) x w j = 1#1) : (∀ i, IsReal (x i)) ∧ ∀ i, IsReal (w i) := by
  obtain ⟨h1, h2⟩ := IntOp.andi_eq_one.1 (h fun a => a.elim0)
  exact ⟨fun i => isReal_of_compare (Host.reduce_andi_all _ _ _ _ _ h1 i),
    fun i => isReal_of_compare (Host.reduce_andi_all _ _ _ _ _ h2 i)⟩

/-- Under the precondition no logit is −∞. -/
theorem logit_ne_bot [Cert.Pre_finite.Facts] {x : TokensIdx → EReal} {w : ExpertsIdx → EReal}
    (h : ∀ j, Cert.Pre_finite.fn (F := Ideal) x w j = 1#1) (b : Fin 4) (s : Fin 4096) (e : Fin 64) :
    routerLogit x w b s e ≠ ⊥ := by
  obtain ⟨hx, hw⟩ := finite_entries h
  exact (IsReal.sum Finset.univ fun d => (hx (ix3 b s d)).mul (hw (ix2 e d))).1

end Cert.Router

end
-- ==== Proof.lean ====
/-
  The proof of `Cert.Claim`: the kernel as printed, the kernel at the ideal values and the reference each run with their
  arguments unchanged and every counter back at zero; the ideal kernel is the printed text itself; and on finite arguments
  kernel and reference end with equal experts, equal weights and equal logits.

  The modules: Selection (the rounds of a selection of the greatest, and that a stable sort puts the same positions first),
  Rounds, Rows and Cases (what one point of the grid computes), Logits and Arrays (what the output arrays hold at the end),
  Router (the functions both programs compute), Host (the kernel's results), Reference (the reference's results), Finite
  (the precondition read back). Here each claim is read off these.
-/
module

public import proofs.«01_k».proof.Defs
public import proofs.«01_k».proof.Proof.Gen.Kernel
public import proofs.«01_k».proof.Proof.Gen.Kernel.Frame
public import proofs.«01_k».proof.Proof.Host
public import proofs.«01_k».proof.Proof.Reference
public import proofs.«01_k».proof.Proof.Finite
public import Idealize.ShloMosaic.Lib.Quiescent

@[expose] public section

noncomputable section

namespace Cert.Proof

open Idealize.ShloMosaic Idealize.ShloMosaic.TcCoe Idealize.SL.Sem Cert.Router

instance : Cert.Pre_finite.Facts := finite_facts

/-- The reference runs, its arguments unchanged; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2.2, sem_eq_zero_of_no_sems (by decide) r.2⟩)
    (Cert.ReferenceIdeal.Value.run m g)

/-- On finite arguments the kernel's three results are the reference's. -/
theorem equal_results : Cert.algebraic_KernelIdeal_ReferenceIdeal_pre_finite := by
  intro m g m' g' hpre hargs
  have hx : ∀ (c : Dev Cert.KernelIdeal.nD) b s e, routerLogit (givenTokens m c) (givenExperts m c) b s e ≠ ⊥ :=
    fun c b s e => logit_ne_bot (fun j => congrFun (hpre c) j) b s e
  have hx' : ∀ (c : Dev Cert.ReferenceIdeal.nD) b s e,
      routerLogit (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1)) b s e ≠ ⊥ :=
    fun c b s e => by
      rw [(hargs c).1, (hargs c).2]
      exact hx c b s e
  refine ⟨fun c => routerExperts (givenTokens m c) (givenExperts m c), fun c => routerWeights (givenTokens m c) (givenExperts m c),
    fun c => routerLogits (givenTokens m c) (givenExperts m c), kernel_run m g hx, ?_⟩
  refine (θ_run _ _ _).mono (fun r h c => ?_) (reference_run m' g' hx')
  obtain ⟨h0, h1, h2, h3⟩ := h c
  refine ⟨h0.trans ?_, h1.trans ?_, h2.trans ?_, h3⟩
  · rw [(hargs c).1, (hargs c).2]; rfl
  · rw [(hargs c).1, (hargs c).2]; rfl
  · rw [(hargs c).1, (hargs c).2]; rfl

theorem claim : Cert.Claim :=
  ⟨Cert.Kernel.Gen.facts, Cert.KernelIdeal.Gen.facts, Cert.ReferenceIdeal.Gen.facts, finite_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    equal_results⟩

end Cert.Proof

end
